-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 512, 1024]⟩ ⟨3, ![32, 512, 1024]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 1024]⟩ ⟨2, ![1024, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v17) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S512x32 : Shape := ⟨2, ![512, 32]⟩
abbrev S1024x1 : Shape := ⟨2, ![1024, 1]⟩
abbrev S4x512x1024 : Shape := ⟨3, ![4, 512, 1024]⟩
abbrev S128x1024 : Shape := ⟨2, ![128, 1024]⟩
abbrev S1024x4 : Shape := ⟨2, ![1024, 4]⟩
abbrev S1024x1024 : Shape := ⟨2, ![1024, 1024]⟩
abbrev S7x128x1024 : Shape := ⟨3, ![7, 128, 1024]⟩
abbrev S7 : Shape := ⟨1, ![7]⟩
abbrev S_ : Shape := ⟨0, ![]⟩
abbrev S128x512 : Shape := ⟨2, ![128, 512]⟩
abbrev S128x4 : Shape := ⟨2, ![128, 4]⟩
abbrev S128x1 : Shape := ⟨2, ![128, 1]⟩
abbrev S1x512x1024 : Shape := ⟨3, ![1, 512, 1024]⟩
abbrev S512x1024 : Shape := ⟨2, ![512, 1024]⟩
abbrev S1 : Shape := ⟨1, ![1]⟩
abbrev S1x128x1024 : Shape := ⟨3, ![1, 128, 1024]⟩

abbrev nBuf : Space → Nat
  | .hbm => 5
  | .vmem => 7
  | .smem => 0
  | _ => 0

abbrev bufTy : (tb : Table) → Fin (tcTables nBuf tb) → BufTy
  | .hbm, ⟨0, _⟩ => ⟨S1024x512, .bf16⟩
  | .hbm, ⟨1, _⟩ => ⟨S512x32, .bf16⟩
  | .hbm, ⟨2, _⟩ => ⟨S1024x1, .i32⟩
  | .hbm, ⟨3, _⟩ => ⟨S4x512x1024, .bf16⟩
  | .hbm, ⟨4, _⟩ => ⟨S128x1024, .f32⟩
  | .local _ .vmem, ⟨0, _⟩ => ⟨S1024x512, .bf16⟩
  | .local _ .vmem, ⟨1, _⟩ => ⟨S1024x1, .i32⟩
  | .local _ .vmem, ⟨2, _⟩ => ⟨S4x512x1024, .bf16⟩
  | .local _ .vmem, ⟨3, _⟩ => ⟨S128x1024, .f32⟩
  | .local _ .vmem, ⟨4, _⟩ => ⟨S1024x4, .f32⟩
  | .local _ .vmem, ⟨5, _⟩ => ⟨S1024x1024, .bf16⟩
  | .local _ .vmem, ⟨6, _⟩ => ⟨S7x128x1024, .bf16⟩
  | _, _ => ⟨S1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) (c1_i32_37 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v58 : BitVec 32 := Scalar.addi v2 c1_i32_37
  let c8_i32_38 : BitVec 32 := 8#32
  let v59 : BitVec 32 := Scalar.remsi v58 c8_i32_38
  let c128_i32 : BitVec 32 := 128#32
  let v60 : BitVec 32 := Scalar.muli v59 c128_i32
  let v61 : Index := Scalar.indexCast v60
  let c0_39 : Index := 0#32
  ![v61.toNat, 0]
def k0_off2 (d0 : Dev nD) (c1_i32_37 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v58 : BitVec 32 := Scalar.addi v2 c1_i32_37
  let c8_i32_38 : BitVec 32 := 8#32
  let v59 : BitVec 32 := Scalar.remsi v58 c8_i32_38
  let c128_i32 : BitVec 32 := 128#32
  let v60 : BitVec 32 := Scalar.muli v59 c128_i32
  let v64 : Index := Scalar.indexCast v60
  let c0_40 : Index := 0#32
  ![v64.toNat, 0]
def k0_off3 (d0 : Dev nD) (c1_i32_37 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v58 : BitVec 32 := Scalar.addi v2 c1_i32_37
  let c8_i32_38 : BitVec 32 := 8#32
  let v59 : BitVec 32 := Scalar.remsi v58 c8_i32_38
  let c128_i32 : BitVec 32 := 128#32
  let v60 : BitVec 32 := Scalar.muli v59 c128_i32
  let v104 : Index := Scalar.indexCast v60
  let c0_46 : Index := 0#32
  ![v104.toNat, 0]
def k0_off4 (d0 : Dev nD) (c1_i32_37 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v58 : BitVec 32 := Scalar.addi v2 c1_i32_37
  let c8_i32_38 : BitVec 32 := 8#32
  let v59 : BitVec 32 := Scalar.remsi v58 c8_i32_38
  let c128_i32 : BitVec 32 := 128#32
  let v60 : BitVec 32 := Scalar.muli v59 c128_i32
  let c0_i32_54 : BitVec 32 := 0#32
  ![v60.toNat, 0]
def k0_dev8 (d0 : Dev nD) : Nat :=
  let c0_i32_51 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_37 : BitVec 32 := 1#32
  let v58 : BitVec 32 := Scalar.addi v2 c1_i32_37
  let c8_i32_38 : BitVec 32 := 8#32
  let v59 : BitVec 32 := Scalar.remsi v58 c8_i32_38
  let c1_i32_50 : BitVec 32 := 1#32
  let v108 : BitVec 32 := Scalar.muli v59 c1_i32_50
  let v109 : BitVec 32 := Scalar.addi c0_i32_51 v108
  v109.toNat
def k0_dev9 (d0 : Dev nD) : Nat :=
  let c0_i32_70 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_55 : BitVec 32 := 2#32
  let v117 : BitVec 32 := Scalar.addi v2 c2_i32_55
  let c8_i32_56 : BitVec 32 := 8#32
  let v118 : BitVec 32 := Scalar.remsi v117 c8_i32_56
  let c1_i32_69 : BitVec 32 := 1#32
  let v167 : BitVec 32 := Scalar.muli v118 c1_i32_69
  let v168 : BitVec 32 := Scalar.addi c0_i32_70 v167
  v168.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_74 : BitVec 32 := 3#32
  let v176 : BitVec 32 := Scalar.addi v2 c3_i32_74
  let c8_i32_75 : BitVec 32 := 8#32
  let v177 : BitVec 32 := Scalar.remsi v176 c8_i32_75
  let c1_i32_88 : BitVec 32 := 1#32
  let v226 : BitVec 32 := Scalar.muli v177 c1_i32_88
  let v227 : BitVec 32 := Scalar.addi c0_i32_89 v226
  v227.toNat
def k0_dev11 (d0 : Dev nD) : Nat :=
  let c0_i32_108 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_93 : BitVec 32 := 4#32
  let v235 : BitVec 32 := Scalar.addi v2 c4_i32_93
  let c8_i32_94 : BitVec 32 := 8#32
  let v236 : BitVec 32 := Scalar.remsi v235 c8_i32_94
  let c1_i32_107 : BitVec 32 := 1#32
  let v285 : BitVec 32 := Scalar.muli v236 c1_i32_107
  let v286 : BitVec 32 := Scalar.addi c0_i32_108 v285
  v286.toNat
def k0_dev12 (d0 : Dev nD) : Nat :=
  let c0_i32_127 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_112 : BitVec 32 := 5#32
  let v294 : BitVec 32 := Scalar.addi v2 c5_i32_112
  let c8_i32_113 : BitVec 32 := 8#32
  let v295 : BitVec 32 := Scalar.remsi v294 c8_i32_113
  let c1_i32_126 : BitVec 32 := 1#32
  let v344 : BitVec 32 := Scalar.muli v295 c1_i32_126
  let v345 : BitVec 32 := Scalar.addi c0_i32_127 v344
  v345.toNat
def k0_dev13 (d0 : Dev nD) : Nat :=
  let c0_i32_146 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_131 : BitVec 32 := 6#32
  let v353 : BitVec 32 := Scalar.addi v2 c6_i32_131
  let c8_i32_132 : BitVec 32 := 8#32
  let v354 : BitVec 32 := Scalar.remsi v353 c8_i32_132
  let c1_i32_145 : BitVec 32 := 1#32
  let v403 : BitVec 32 := Scalar.muli v354 c1_i32_145
  let v404 : BitVec 32 := Scalar.addi c0_i32_146 v403
  v404.toNat
def k0_dev14 (d0 : Dev nD) : Nat :=
  let c0_i32_165 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_150 : BitVec 32 := 7#32
  let v412 : BitVec 32 := Scalar.addi v2 c7_i32_150
  let c8_i32_151 : BitVec 32 := 8#32
  let v413 : BitVec 32 := Scalar.remsi v412 c8_i32_151
  let c1_i32_164 : BitVec 32 := 1#32
  let v462 : BitVec 32 := Scalar.muli v413 c1_i32_164
  let v463 : BitVec 32 := Scalar.addi c0_i32_165 v462
  v463.toNat
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_169 : BitVec 32 := 128#32
  let v471 : BitVec 32 := Scalar.muli v2 c128_i32_169
  let v472 : Index := Scalar.indexCast v471
  let c0_170 : Index := 0#32
  ![v472.toNat, 0]
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_169 : BitVec 32 := 128#32
  let v471 : BitVec 32 := Scalar.muli v2 c128_i32_169
  let v475 : Index := Scalar.indexCast v471
  let c0_171 : Index := 0#32
  ![v475.toNat, 0]
def k0_off7 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_169 : BitVec 32 := 128#32
  let v471 : BitVec 32 := Scalar.muli v2 c128_i32_169
  let v515 : Index := Scalar.indexCast v471
  let c0_177 : Index := 0#32
  ![v515.toNat, 0]
abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1024x512 : Shape := ⟨2, ![1024, 512]⟩
abbrev S512x32 : Shape := ⟨2, ![512, 32]⟩
abbrev S1024x1 : Shape := ⟨2, ![1024, 1]⟩
abbrev S32x512x1024 : Shape := ⟨3, ![32, 512, 1024]⟩
abbrev S1024x32 : Shape := ⟨2, ![1024, 32]⟩
abbrev S_ : Shape := ⟨0, ![]⟩
abbrev S32x1024x1024 : Shape := ⟨3, ![32, 1024, 1024]⟩
abbrev S32x1024 : Shape := ⟨2, ![32, 1024]⟩
abbrev S32x1024x1 : Shape := ⟨3, ![32, 1024, 1]⟩
abbrev S1024x1024 : Shape := ⟨2, ![1024, 1024]⟩

abbrev nBuf : Space → Nat
  | .hbm => 30
  | .vmem => 0
  | .smem => 0
  | _ => 0

abbrev bufTy : (tb : Table) → Fin (tcTables nBuf tb) → BufTy
  | .hbm, ⟨0, _⟩ => ⟨S1024x512, .bf16⟩
  | .hbm, ⟨1, _⟩ => ⟨S512x32, .bf16⟩
  | .hbm, ⟨2, _⟩ => ⟨S1024x1, .i32⟩
  | .hbm, ⟨3, _⟩ => ⟨S32x512x1024, .bf16⟩
  | .hbm, ⟨4, _⟩ => ⟨S1024x32, .i32⟩
  | .hbm, ⟨5, _⟩ => ⟨S1024x32, .i32⟩
  | .hbm, ⟨6, _⟩ => ⟨S1024x32, .i1⟩
  | .hbm, ⟨7, _⟩ => ⟨S1024x32, .i32⟩
  | .hbm, ⟨8, _⟩ => ⟨S_, .i32⟩
  | .hbm, ⟨9, _⟩ => ⟨S_, .i32⟩
  | .hbm, ⟨10, _⟩ => ⟨S1024x32, .i32⟩
  | .hbm, ⟨11, _⟩ => ⟨S1024x32, .i32⟩
  | .hbm, ⟨12, _⟩ => ⟨S1024x32, .i32⟩
  | .hbm, ⟨13, _⟩ => ⟨S_, .i32⟩
  | .hbm, ⟨14, _⟩ => ⟨S1024x32, .i32⟩
  | .hbm, ⟨15, _⟩ => ⟨S1024x32, .i1⟩
  | .hbm, ⟨16, _⟩ => ⟨S1024x32, .i1⟩
  | .hbm, ⟨17, _⟩ => ⟨S1024x512, .f32⟩
  | .hbm, ⟨18, _⟩ => ⟨S32x512x1024, .f32⟩
  | .hbm, ⟨19, _⟩ => ⟨S32x1024x1024, .f32⟩
  | .hbm, ⟨20, _⟩ => ⟨S32x1024x1024, .f32⟩
  | .hbm, ⟨21, _⟩ => ⟨S32x1024, .i1⟩
  | .hbm, ⟨22, _⟩ => ⟨S32x1024x1, .i1⟩
  | .hbm, ⟨23, _⟩ => ⟨S_, .f32⟩
  | .hbm, ⟨24, _⟩ => ⟨S_, .f32⟩
  | .hbm, ⟨25, _⟩ => ⟨S32x1024x1024, .i1⟩
  | .hbm, ⟨26, _⟩ => ⟨S32x1024x1024, .f32⟩
  | .hbm, ⟨27, _⟩ => ⟨S32x1024x1024, .f32⟩
  | .hbm, ⟨28, _⟩ => ⟨S_, .f32⟩
  | .hbm, ⟨29, _⟩ => ⟨S1024x1024, .f32⟩
  | _, _ => ⟨S1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_call0_c : Ref sig .tc := ⟨.hbm, 8, rfl⟩
abbrev main_call0_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v16 : Ref sig .tc := ⟨.hbm, 27, rfl⟩
abbrev main_cst_0 : Ref sig .tc := ⟨.hbm, 28, rfl⟩
abbrev main_v17 : Ref sig .tc := ⟨.hbm, 29, rfl⟩

abbrev nD : Nat := 1
abbrev τ : Topo := Topo.v7x

variable {F : FTy → Type} [FloatOps F]
-- ==== Proof.Moe.Protocol.lean ====
/-
# How the eight devices talk, and what every copy carries

Device `c` computes, for each block of 128 tokens, the sum over its four experts (the partial block), keeps its own
block and sends the others: its `k`-th copy goes to the device `k + 1` places further round, into that device's
communication slot `k`. Before any copy every device tells the seven others that it has started (one unit on each
one's barrier counter) and waits for seven units itself.

* barrier counter of `c`: seven units, one from every other device; the one from `hop c j` hands over slot `j` of
  that device's communication buffer, which is where `c`'s `j`-th copy lands;
* send counter `k` of `c`: one landing, which gives back the block that the copy read;
* receive counter `k` of `c`: one landing, which gives slot `k` of `c` holding the partial block of `c`'s tokens
  computed by the device that `c` reaches by its copy `6 - k`.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The ghost state: the staging pipeline's and the exchange's (duties named by the copy's number) -/

/-- The exchange's bookkeeping: rounds of duties at each counter, a duty named by a number below seven. -/
abbrev UX : Type := URounds (GSem nD τ sig) (Fin 7)
/-- The staging pipeline's bookkeeping and the exchange's. -/
abbrev UU : Type := UR sig nD τ × UX

local notation "𝕄" => MT nD τ sig Unit (Elt F) ℕ UU ℕ

/-- The staging pipeline's part of the bookkeeping. -/
abbrev EP : Emb (UR sig nD τ) (MT nD τ sig Unit (Elt F) ℕ UU ℕ) := embL
/-- The exchange's part of the bookkeeping. -/
abbrev EX : Emb UX (MT nD τ sig Unit (Elt F) ℕ UU ℕ) := embR

variable (m : (ℓ : Loc nD τ sig) → Buf (Elt F) ℓ) (ρ : Dev nD → PrngReg)

/-- The memory at launch: the given contents, every counter zero. -/
def s₀ : MemSt nD τ sig (Elt F) := ⟨m, fun _ => 0, ρ⟩

/-! ## Who sends to whom -/

set_option backward.proofsInPublic true in
/-- The device that `c`'s copy `k` goes to. -/
def hop (c : Dev nD) (k : Fin 7) : Dev nD := ⟨(c.val + k.val + 1) % 8, Nat.mod_lt _ (by decide)⟩

/-- Copy `k` from `c` and copy `6 - k` from where it lands go between the same two devices. -/
theorem hop_rev (c : Dev nD) (k : Fin 7) : hop (hop c k) k.rev = c := by revert c k; decide
/-- The same the other way round. -/
theorem hop_rev' (c : Dev nD) (k : Fin 7) : hop (hop c k.rev) k = c := by revert c k; decide
/-- No copy goes to the device that sends it. -/
theorem hop_ne (c : Dev nD) (k : Fin 7) : hop c k ≠ c := by revert c k; decide
/-- Different copies of one device go to different devices. -/
theorem hop_inj (c : Dev nD) {j k : Fin 7} (h : hop c j = hop c k) : j = k := by revert c j k; decide
/-- Copy `k` of different devices goes to different devices. -/
theorem hop_left_inj (k : Fin 7) {c d : Dev nD} (h : hop c k = hop d k) : c = d := by revert c d k; decide

/-- Going `k + 1` places round, as a rearrangement of the devices. -/
def turn (k : Fin 7) : Dev nD ≃ Dev nD := ⟨fun c => hop c k, fun c => hop c k.rev, fun c => hop_rev c k, fun c => hop_rev' c k⟩

/-! ## Buffers, blocks and slots -/

/-- The tokens' staging buffer. -/
abbrev xM : Memref sig .tc .vmem S1024x512 .bf16 := Memref.whole cc0_stg0_0
/-- The choices' staging buffer. -/
abbrev iM : Memref sig .tc .vmem S1024x1 .i32 := Memref.whole cc0_stg1_0
/-- The experts' staging buffer. -/
abbrev wM : Memref sig .tc .vmem S4x512x1024 .bf16 := Memref.whole cc0_stg2_0
/-- The result's staging buffer. -/
abbrev oM : Memref sig .tc .vmem S128x1024 .f32 := Memref.whole cc0_stg3_0
/-- The keep mask's buffer. -/
abbrev kM : Memref sig .tc .vmem S1024x4 .f32 := Memref.whole cc0_scratch0
/-- The accumulator: eight blocks of 128 rows. -/
abbrev aM : Memref sig .tc .vmem S1024x1024 .bf16 := Memref.whole cc0_scratch1
/-- The communication buffer: seven slots of one block. -/
abbrev cM : Memref sig .tc .vmem S7x128x1024 .bf16 := Memref.whole cc0_scratch2

/-- Block `b` of the tokens lies inside. -/
theorem inb_x (b : Dev nD) : ∀ a, (![128 * b.val, 0] : Fin 2 → ℕ) a + S128x512.size a ≤ S1024x512.size a := by revert b; decide
/-- Block `b` of the keep mask lies inside. -/
theorem inb_k (b : Dev nD) : ∀ a, (![128 * b.val, 0] : Fin 2 → ℕ) a + S128x4.size a ≤ S1024x4.size a := by revert b; decide
/-- Block `b` of the accumulator lies inside. -/
theorem inb_a (b : Dev nD) : ∀ a, (![128 * b.val, 0] : Fin 2 → ℕ) a + S128x1024.size a ≤ S1024x1024.size a := by revert b; decide
/-- Slot `k` of the communication buffer lies inside. -/
theorem inb_c (k : Fin 7) : ∀ a, (![k.val, 0, 0] : Fin 3 → ℕ) a + S1x128x1024.size a ≤ S7x128x1024.size a := by revert k; decide

/-- Block `b` of the tokens: its 128 rows. -/
abbrev xR (b : Dev nD) : Rect S1024x512 := Rect.unit (s := S1024x512) ![128 * b.val, 0] S128x512.size (inb_x b)
/-- Block `b` of the keep mask. -/
abbrev kR (b : Dev nD) : Rect S1024x4 := Rect.unit (s := S1024x4) ![128 * b.val, 0] S128x4.size (inb_k b)
/-- Block `b` of the accumulator. -/
abbrev aR (b : Dev nD) : Rect S1024x1024 := Rect.unit (s := S1024x1024) ![128 * b.val, 0] S128x1024.size (inb_a b)
/-- Slot `k` of the communication buffer. -/
abbrev cR (k : Fin 7) : Rect S7x128x1024 := Rect.unit (s := S7x128x1024) ![k.val, 0, 0] S1x128x1024.size (inb_c k)

/-- Block `b` of the accumulator, as a buffer of 128 rows. -/
abbrev blkM (b : Dev nD) : Memref sig .tc .vmem S128x1024 .bf16 := aM.slice (aR b) (fun _ => rfl)
/-- Slot `k` of the communication buffer, as a buffer of 128 rows. -/
abbrev slotM (k : Fin 7) : Memref sig .tc .vmem S128x1024 .bf16 := (cM.slice (cR k) (fun _ => rfl)).squeeze S128x1024 squeezes_S1x128x1024_S128x1024

/-! ## The counters -/

/-- The barrier's semaphore. -/
abbrev barS : Sem sig := (SemArray.scalar (sig.barrier 0 rfl) : Sems sig S_).sem
/-- The semaphore of copy `k`'s sending side. -/
def sendS (k : Fin 7) : DmaSem sig := ((cc0_scratch3.slice (Rect.unit (s := S7) ![k.val] S1.size (by revert k; decide))).squeeze S_ squeezes_S1_S_).sem
/-- The semaphore of copy `k`'s receiving side. -/
def recvS (k : Fin 7) : DmaSem sig := ((cc0_scratch4.slice (Rect.unit (s := S7) ![k.val] S1.size (by revert k; decide))).squeeze S_ squeezes_S1_S_).sem

/-- Device `c`'s barrier counter. -/
abbrev barCell (c : Dev nD) : GSem nD τ sig := ((c : Thread nD τ), .reg barS)
/-- Device `c`'s send counter `k`. -/
abbrev sendCell (c : Dev nD) (k : Fin 7) : GSem nD τ sig := ((c : Thread nD τ), .dma (sendS k))
/-- Device `c`'s receive counter `k`. -/
abbrev recvCell (c : Dev nD) (k : Fin 7) : GSem nD τ sig := ((c : Thread nD τ), .dma (recvS k))

/-- The fifteen counters of a device, by what they are for: the barrier, send `k`, receive `k`. -/
abbrev Ctr : Type := Option (Bool × Fin 7)
/-- The semaphore of each of the fifteen counters. -/
abbrev ctr : Ctr → SemLoc sig
  | none => .reg barS
  | some (false, k) => .dma (sendS k)
  | some (true, k) => .dma (recvS k)
/-- A counter on a device. -/
abbrev cellAt (ck : Dev nD × Ctr) : GSem nD τ sig := ((ck.1 : Thread nD τ), ctr ck.2)

/-- The fifteen counters are distinct semaphores. -/
theorem ctr_injective : Function.Injective ctr := by decide
/-- The send semaphores are distinct. -/
theorem sendS_inj : ∀ j k : Fin 7, sendS j = sendS k → j = k := by decide
/-- The receive semaphores are distinct. -/
theorem recvS_inj : ∀ j k : Fin 7, recvS j = recvS k → j = k := by decide
/-- No send semaphore is a receive semaphore. -/
theorem sendS_ne_recvS : ∀ j k : Fin 7, sendS j ≠ recvS k := by decide

/-- What one block's copy adds to a counter. -/
abbrev N : ℕ := (slotM 0).view.dmaCredit
/-- A copy's credit is not zero. -/
theorem N_pos : 0 < N := View.dmaCredit_pos _ (by decide)

/-! ## Contents -/

/-- The tokens that device `c` stages. -/
def xs (c : Dev nD) : (cc0_stg0_0 : Ref sig .tc).ty.Contents (Elt F) :=
  (win0_0.blk (0 : Fin 1)).view.read (Elt F) ((s₀ m ρ).mem ((c : Thread nD τ).loc main_arg0))
/-- The choices that device `c` stages. -/
def is (c : Dev nD) : (cc0_stg1_0 : Ref sig .tc).ty.Contents (Elt F) :=
  (win0_1.blk (0 : Fin 1)).view.read (Elt F) ((s₀ m ρ).mem ((c : Thread nD τ).loc main_arg2))
/-- The experts that device `c` stages. -/
def ws (c : Dev nD) : (cc0_stg2_0 : Ref sig .tc).ty.Contents (Elt F) :=
  (win0_2.blk (0 : Fin 1)).view.read (Elt F) ((s₀ m ρ).mem ((c : Thread nD τ).loc main_arg3))

/-- Device `c`'s number in the ring, as the kernel computes it. -/
def ringWord (c : Dev nD) : BitVec 32 := Scalar.remsi (Scalar.divsi (Dev.word c) 1#32) 8#32

/-- Which of device `c`'s four experts keep which token. -/
def keeps (c : Dev nD) : (cc0_scratch0 : Ref sig .tc).ty.Contents (Elt F) := k0_pay2 (ringWord c) (is m ρ c)

/-- Device `c`'s partial block of the tokens of block `b`. -/
def part (c b : Dev nD) : FVec F S128x1024 .bf16 :=
  k0_pay4 (k0_pay3 (ws m ρ c)) (xM.view.readAt (Elt F) (xR b).toLoadRect (xs m ρ c)) (kM.view.readAt (Elt F) (kR b).toLoadRect (keeps m ρ c))

/-- A running sum with one more received block. -/
def addBlock (s : FVec F S128x1024 .f32) (v : FVec F S128x1024 .bf16) : FVec F S128x1024 .f32 := addf s (extf .f32 v bitsLt_bf16_f32)

/-- The partial block that arrives in device `c`'s slot `k`. -/
def arrives (c : Dev nD) (k : Fin 7) : FVec F S128x1024 .bf16 := part m ρ (hop c k.rev) c

/-- Device `c`'s result: its own partial block and the seven that arrive, added in the slots' order. -/
def total (c : Dev nD) : (cc0_stg3_0 : Ref sig .tc).ty.Contents (Elt F) :=
  addBlock (addBlock (addBlock (addBlock (addBlock (addBlock (addBlock (extf .f32 (part m ρ c c) bitsLt_bf16_f32)
    (arrives m ρ c 0)) (arrives m ρ c 1)) (arrives m ρ c 2)) (arrives m ρ c 3)) (arrives m ρ c 4)) (arrives m ρ c 5)) (arrives m ρ c 6)

/-- Slot `k` of device `c`, at anything. -/
def slotAny (c : Dev nD) (k : Fin 7) : sProp 𝕄 :=
  iprop(∃ f, (slotM k).view.loc (c : Thread nD τ) ↦[(slotM k).view.set]{fullShare} f)
/-- Slot `k` of device `c`, holding `v`. -/
def slotHas (c : Dev nD) (k : Fin 7) (v : FVec F S128x1024 .bf16) : sProp 𝕄 :=
  iprop(∃ f, ⌜(slotM k).view.read (Elt F) f = v⌝ ∗ ((slotM k).view.loc (c : Thread nD τ) ↦[(slotM k).view.set]{fullShare} f))
/-- Block `b` of device `c`'s accumulator, at anything. -/
def blkAny (c b : Dev nD) : sProp 𝕄 :=
  iprop(∃ f, (blkM b).view.loc (c : Thread nD τ) ↦[(blkM b).view.set]{fullShare} f)
/-- Block `b` of device `c`'s accumulator, holding `v`. -/
def blkHas (c b : Dev nD) (v : FVec F S128x1024 .bf16) : sProp 𝕄 :=
  iprop(∃ f, ⌜(blkM b).view.read (Elt F) f = v⌝ ∗ ((blkM b).view.loc (c : Thread nD τ) ↦[(blkM b).view.set]{fullShare} f))

omit [FloatOps F] in
/-- A slot held at anything may be handed over at a counter. -/
instance slotAny_storable (c : Dev nD) (k : Fin 7) : BI.Storable (upEmb : UEmb _ 𝕄) (slotAny (F := F) c k) := by unfold slotAny; infer_instance
omit [FloatOps F] in
/-- A slot held at given contents may be handed over at a counter. -/
instance slotHas_storable (c : Dev nD) (k : Fin 7) (v) : BI.Storable (upEmb : UEmb _ 𝕄) (slotHas (F := F) c k v) := by unfold slotHas; infer_instance
omit [FloatOps F] in
/-- A block held at anything may be handed over at a counter. -/
instance blkAny_storable (c b : Dev nD) : BI.Storable (upEmb : UEmb _ 𝕄) (blkAny (F := F) c b) := by unfold blkAny; infer_instance

/-! ## The schedule -/

/-- What the unit from `hop c j` hands device `c`: slot `j` of that device, which starts at round 0 of receive counter `j`. -/
def barPay (c : Dev nD) (j : Fin 7) : sProp 𝕄 := iprop(slotAny (hop c j) j ∗ reached EX (recvCell (hop c j) j) 0)

/-- The contents handed over by duty `j` of a counter of device `c`. -/
def pay (c : Dev nD) (q : Ctr) (j : Fin 7) : sProp 𝕄 := match q with
  | none => barPay c j
  | some (false, k) => blkAny c (hop c k)
  | some (true, k) => slotHas c k (arrives m ρ c k)

/-- All that a duty hands over may be handed over. -/
instance pay_storable (c : Dev nD) (q : Ctr) (j : Fin 7) : BI.Storable (upEmb : UEmb _ 𝕄) (pay m ρ c q j) := by
  unfold pay barPay; split <;> infer_instance

/-- Which of the fifteen counters a counter is, if any. -/
def which (s : SemLoc sig) : Option Ctr := (Finset.univ.filter fun q => ctr q = s).toList.head?

/-- Every counter is found from its semaphore. -/
theorem which_ctr (q : Ctr) : which (ctr q) = some q := by
  unfold which
  rw [show (Finset.univ.filter fun q' => ctr q' = ctr q) = {q} from by ext q'; simp [ctr_injective.eq_iff], Finset.toList_singleton]; rfl

/-- One round: the barrier counter has the seven duties, one unit each; a send or receive counter one duty of a block's credit. -/
def exch : Rounds.Schedule (GSem nD τ sig) (Fin 7) 𝕄 where
  duties g r := if r = 0 ∧ g.1.2 = .tc then (match which g.2 with | some none => Finset.univ | some (some _) => {0} | none => ∅) else ∅
  unitless _ := False
  amount g _ _ := match which g.2 with | some none => 1 | _ => N
  payload g _ j := match which g.2 with | some q => pay m ρ g.1.1 q j | none => iprop(emp)
  amount_pos g _ _ _ := by
    split
    · exact Nat.one_pos
    · exact N_pos

/-- The same of the schedule's table. -/
instance exch_payload_storable (g : GSem nD τ sig) (r : ℕ) (d : Fin 7) :
    BI.Storable (upEmb : UEmb _ 𝕄) ((exch (F := F) m ρ).payload g r d) := by
  show BI.Storable upEmb (match which g.2 with | some q => pay m ρ g.1.1 q d | none => iprop(emp))
  split <;> infer_instance

section Tables
variable (c : Dev nD)

/-- A barrier counter has seven duties. -/
theorem duties_bar : (exch (F := F) m ρ).duties (barCell c) 0 = Finset.univ := by
  dsimp only [exch]; rw [if_pos ⟨rfl, rfl⟩, show SemLoc.reg barS = ctr none from rfl, which_ctr]
/-- A send or receive counter has one duty. -/
theorem duties_one (d : Bool × Fin 7) : (exch (F := F) m ρ).duties (cellAt (c, some d)) 0 = {0} := by
  dsimp only [exch]; rw [if_pos ⟨rfl, rfl⟩, which_ctr]
/-- There is one round only. -/
theorem duties_later (g : GSem nD τ sig) : ∀ r, 1 ≤ r → (exch (F := F) m ρ).duties g r = ∅ :=
  fun r hr => by dsimp only [exch]; rw [if_neg fun h => by omega]

/-- A barrier's duty is one unit. -/
theorem amount_bar (j : Fin 7) : (exch (F := F) m ρ).amount (barCell c) 0 j = 1 := by
  dsimp only [exch]; rw [show SemLoc.reg barS = ctr none from rfl, which_ctr]
/-- A send's or receive's duty is one copy's credit. -/
theorem amount_one (d : Bool × Fin 7) (j : Fin 7) : (exch (F := F) m ρ).amount (cellAt (c, some d)) 0 j = N := by
  dsimp only [exch, cellAt]; rw [which_ctr]

/-- What a duty of counter `q` hands over. -/
theorem payload_at (q : Ctr) (j : Fin 7) : (exch (F := F) m ρ).payload (cellAt (c, q)) 0 j = pay m ρ c q j := by
  dsimp only [exch, cellAt]; rw [which_ctr]

/-- A barrier's round is complete at seven units. -/
theorem expect_bar : (exch (F := F) m ρ).expect (barCell c) 0 = 7 := by
  unfold Schedule.expect Schedule.amountOf
  rw [duties_bar, Finset.sum_congr rfl fun d _ => amount_bar m ρ c d, Finset.sum_const, Finset.card_univ, Fintype.card_fin, smul_eq_mul]
/-- A send's or receive's round is complete at one copy's credit. -/
theorem expect_one (d : Bool × Fin 7) : (exch (F := F) m ρ).expect (cellAt (c, some d)) 0 = N := by
  unfold Schedule.expect Schedule.amountOf; rw [duties_one, Finset.sum_singleton, amount_one]

/-- All that the barrier counter's round hands over: the seven slots. -/
theorem rest_bar : bigSep ((exch (F := F) m ρ).duties (barCell c) 0 \ ∅) (fun j => (exch (F := F) m ρ).payload (barCell c) 0 j)
    = bigSep Finset.univ (fun j => barPay c j) := by
  rw [Finset.sdiff_empty, duties_bar]; exact bigSep_congr fun j _ => payload_at m ρ c none j
/-- All that a send or receive counter's round hands over. -/
theorem rest_one (d : Bool × Fin 7) : bigSep ((exch (F := F) m ρ).duties (cellAt (c, some d)) 0 \ ∅) (fun j => (exch (F := F) m ρ).payload (cellAt (c, some d)) 0 j)
    = pay m ρ c (some d) 0 := by
  rw [Finset.sdiff_empty, duties_one, bigSep_singleton, payload_at]

end Tables

end Cert.Moe

end
-- ==== Proof.Moe.Debts.lean ====
/-
# What each device owes, in what order the waits may happen, and how the two scratch buffers divide

At launch device `c` owes each other device one unit on its barrier counter and one block's credit on the receive
counter of the slot where its copy lands. The barrier counters lie below the receive counters, and everything else
(the staging pipeline, the send counters) below both.
-/
module

public import proofs.«01_k».proof.Proof.Moe.Protocol

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Debts -/

/-- A debt `base` with the debts `f k` of a list of copies on top, the first one outermost. -/
def owe (base : CellTallies nD τ sig Unit) (f : Fin 7 → CellTallies nD τ sig Unit) : List (Fin 7) → CellTallies nD τ sig Unit
  | [] => base
  | k :: l => owe base f l + f k

/-- What is owed to a counter is the base's part and the sum of the listed copies' parts. -/
theorem owe_apply (base) (f : Fin 7 → CellTallies nD τ sig Unit) (g : GSem nD τ sig) (u : Unit) (l : List (Fin 7)) :
    owe base f l g u = base g u + (l.map fun k => f k g u).sum := by
  induction l with
  | nil => simp [owe]
  | cons k l ih => rw [owe, Pi.add_apply, Finsupp.add_apply, ih, List.map_cons, List.sum_cons]; omega

/-- The same with all seven copies listed. -/
theorem owe_all (base) (f : Fin 7 → CellTallies nD τ sig Unit) (g : GSem nD τ sig) (u : Unit) :
    owe base f [0, 1, 2, 3, 4, 5, 6] g u = base g u + ∑ k, f k g u := by
  rw [owe_apply, Fin.sum_univ_seven]; simp only [List.map_cons, List.map_nil, List.sum_cons, List.sum_nil]; omega

/-- The credit owed to the slot where copy `k` lands. -/
def owesCopy (c : Dev nD) (k : Fin 7) : CellTallies nD τ sig Unit := tallyAt (recvCell (hop c k) k) () N
/-- The unit owed to the barrier of the device that copy `k` goes to. -/
def owesUnit (c : Dev nD) (k : Fin 7) : CellTallies nD τ sig Unit := tallyAt (barCell (hop c k)) () 1

/-- What device `c` owes once its signals are out. -/
def O₁ (c : Dev nD) : CellTallies nD τ sig Unit := owe 0 (owesCopy c) [0, 1, 2, 3, 4, 5, 6]
/-- What device `c` owes at launch: seven units to barriers and seven copies. -/
def O₀ (c : Dev nD) : CellTallies nD τ sig Unit := owe (O₁ c) (owesUnit c) [0, 1, 2, 3, 4, 5, 6]

/-- A receive counter is no barrier counter. -/
theorem recv_ne_bar (a b : Dev nD) (k : Fin 7) : recvCell a k ≠ barCell b := fun h => by cases congrArg Prod.snd h
/-- Two barrier counters are the same one exactly if their devices are. -/
theorem bar_eq_iff {a b : Dev nD} : Iff (barCell a = barCell b) (a = b) :=
  ⟨fun h => Fin.ext (congrArg (fun g : GSem nD τ sig => g.1.1.val) h), fun h => h ▸ rfl⟩
/-- Two receive counters are the same one exactly if their devices and their copies are. -/
theorem recv_eq_iff {a b : Dev nD} {j k : Fin 7} : Iff (recvCell a j = recvCell b k) (a = b ∧ j = k) :=
  ⟨fun h => ⟨Fin.ext (congrArg (fun g : GSem nD τ sig => g.1.1.val) h), recvS_inj j k (SemLoc.dma.inj (congrArg Prod.snd h))⟩,
    fun h => by rw [h.1, h.2]⟩

/-- A copy owes a barrier nothing. -/
theorem owesCopy_bar (c d : Dev nD) (k : Fin 7) (u : Unit) : owesCopy c k (barCell d) u = 0 := by
  unfold owesCopy; rw [tallyAt_apply, if_neg fun h => recv_ne_bar _ _ _ h.1.symm]
/-- A signal owes a receive counter nothing. -/
theorem owesUnit_recv (c d : Dev nD) (k j : Fin 7) (u : Unit) : owesUnit c k (recvCell d j) u = 0 := by
  unfold owesUnit; rw [tallyAt_apply, if_neg fun h => recv_ne_bar _ _ _ h.1]
/-- Signal `k` of `c` owes one unit to `d`'s barrier if it goes to `d`, and nothing otherwise. -/
theorem owesUnit_bar (c d : Dev nD) (k : Fin 7) : owesUnit c k (barCell d) () = if c = hop d k.rev then 1 else 0 := by
  unfold owesUnit; rw [tallyAt_apply]
  refine if_congr ⟨fun h => ?_, fun h => ⟨?_, rfl⟩⟩ rfl rfl
  · rw [bar_eq_iff.mp h.1, hop_rev]
  · rw [h, hop_rev']
/-- Copy `k` of `c` owes its credit to the receive counter `k` of the device it goes to, and nothing to any other. -/
theorem owesCopy_recv (c d : Dev nD) (k j : Fin 7) : owesCopy c k (recvCell d j) () = if c = hop d j.rev then (if k = j then N else 0) else 0 := by
  unfold owesCopy; rw [tallyAt_apply, ← ite_and]
  refine if_congr ⟨fun h => ?_, fun h => ⟨?_, rfl⟩⟩ rfl rfl
  · obtain ⟨rfl, rfl⟩ := recv_eq_iff.mp h.1; exact ⟨(hop_rev _ _).symm, rfl⟩
  · rw [h.1, h.2, hop_rev']

/-- A debt once the signals are out is to a receive counter. -/
theorem O₁_pos {c : Dev nD} {g : GSem nD τ sig} {u : Unit} (h : 0 < O₁ c g u) : ∃ k, g = recvCell (hop c k) k := by
  unfold O₁ at h; rw [owe_all, Pi.zero_apply, Finsupp.zero_apply, Nat.zero_add] at h
  obtain ⟨k, -, hk⟩ := Finset.exists_ne_zero_of_sum_ne_zero h.ne'
  unfold owesCopy at hk; rw [tallyAt_apply] at hk
  exact ⟨k, (not_imp_comm.mp (fun hn => if_neg hn) hk).1⟩
/-- A debt at launch is to a receive counter or to a barrier counter. -/
theorem O₀_pos {c : Dev nD} {g : GSem nD τ sig} {u : Unit} (h : 0 < O₀ c g u) :
    (∃ k, g = recvCell (hop c k) k) ∨ ∃ k, g = barCell (hop c k) := by
  unfold O₀ at h; rw [owe_all] at h
  rcases Nat.eq_zero_or_pos (O₁ c g u) with h0 | h0
  · rw [h0, Nat.zero_add] at h
    obtain ⟨k, -, hk⟩ := Finset.exists_ne_zero_of_sum_ne_zero h.ne'
    unfold owesUnit at hk; rw [tallyAt_apply] at hk
    exact Or.inr ⟨k, (not_imp_comm.mp (fun hn => if_neg hn) hk).1⟩
  · exact Or.inl (O₁_pos h0)

/-! ## Levels -/

/-- The counters' names: one for every counter of a device's tensor core. -/
def L (g : GSem nD τ sig) : Finset Unit := if g.1.2 = .tc then {()} else ∅
/-- Barrier counters at 1, receive counters at 2, everything else at 0. -/
def lv (g : GSem nD τ sig) (_ : Unit) : ℕ := match which g.2 with | some none => 1 | some (some (true, _)) => 2 | _ => 0

/-- A counter of any other core has no name. -/
theorem L_of_ne (g : GSem nD τ sig) (h : g.1.2 ≠ .tc) : L g = ∅ := if_neg h
/-- A counter of a tensor core has its name. -/
theorem mem_L (c : Dev nD) (sm : SemLoc sig) (u : Unit) : u ∈ L ((c : Thread nD τ), sm) := by
  unfold L; rw [if_pos rfl]; exact Finset.mem_singleton_self _

/-- A semaphore that is none of the fifteen counters is found to be none. -/
theorem which_none (s : SemLoc sig) (h : ∀ q, ctr q ≠ s) : which s = none := by
  unfold which; rw [Finset.filter_false_of_mem fun q _ => h q, Finset.toList_empty]; rfl

/-- Barrier counters are at level 1. -/
theorem lv_bar (c : Dev nD) (u : Unit) : lv (barCell c) u = 1 := by
  unfold lv; rw [show (barCell c).2 = ctr none from rfl, which_ctr]
/-- Receive counters are at level 2. -/
theorem lv_recv (c : Dev nD) (k : Fin 7) (u : Unit) : lv (recvCell c k) u = 2 := by
  unfold lv; rw [show (recvCell c k).2 = ctr (some (true, k)) from rfl, which_ctr]
/-- A semaphore that is none of the fifteen counters is at level 0. -/
theorem lv_stage (c : Dev nD) (s : SemLoc sig) (h : ∀ q, ctr q ≠ s) (u : Unit) : lv ((c : Thread nD τ), s) u = 0 := by
  unfold lv; rw [which_none s h]

omit [FloatOps F] in
/-- The staging pipeline may wait on its own counters while the launch debts stand, and when nothing is owed. -/
theorem mayWait_stage (c : Dev nD) (s : SemLoc sig) (hs : ∀ q, ctr q ≠ s) (O : CellTallies nD τ sig Unit) (hO : O = O₀ c ∨ O = 0) :
    (levAts L lv : sProp 𝕄) ⊢ MayWait (c : Thread nD τ) s () O := by
  rcases hO with rfl | rfl
  · refine MayOwe.of_cut (L := L) (lev := lv) 0 (fun p hp => mem_L _ _ _) (fun g u hg => ?_) (fun p hp => ?_) (fun g u hg => ?_)
    · rcases O₀_pos hg with ⟨k, rfl⟩ | ⟨k, rfl⟩ <;> exact mem_L _ _ _
    · rw [Finset.mem_singleton.mp hp]; exact (lv_stage c s hs ()).le
    · rcases O₀_pos hg with ⟨k, rfl⟩ | ⟨k, rfl⟩
      · rw [lv_recv]; decide
      · rw [lv_bar]; decide
  · rw [MayWait_zero]; iintro -; iempintro

omit [FloatOps F] in
/-- At its barrier wait a device owes receive credits only, which lie above its barrier counter. -/
theorem mayWait_bar (c : Dev nD) : (levAts L lv : sProp 𝕄) ⊢ MayWait (c : Thread nD τ) (.reg barS) () (O₁ c) := by
  refine MayOwe.of_cut (L := L) (lev := lv) 1 (fun p hp => mem_L _ _ _) (fun g u hg => ?_) (fun p hp => ?_) (fun g u hg => ?_)
  · obtain ⟨k, rfl⟩ := O₁_pos hg; exact mem_L _ _ _
  · rw [Finset.mem_singleton.mp hp]; exact (lv_bar c ()).le
  · obtain ⟨k, rfl⟩ := O₁_pos hg; rw [lv_recv]; decide

/-! ## The launch credits -/

/-- What device `d` owes to `c`'s barrier at launch. -/
theorem owed_bar (d c : Dev nD) : O₀ d (barCell c) () = ∑ k : Fin 7, if d = hop c k.rev then 1 else 0 := by
  unfold O₀ O₁
  rw [owe_all, owe_all, Pi.zero_apply, Finsupp.zero_apply, Finset.sum_eq_zero fun k _ => owesCopy_bar d c k (), Nat.zero_add, Nat.zero_add]
  exact Finset.sum_congr rfl fun k _ => owesUnit_bar d c k
/-- What device `d` owes to `c`'s receive counter `j` at launch. -/
theorem owed_recv (d c : Dev nD) (j : Fin 7) : O₀ d (recvCell c j) () = if d = hop c j.rev then N else 0 := by
  unfold O₀ O₁
  rw [owe_all, owe_all, Pi.zero_apply, Finsupp.zero_apply, Finset.sum_eq_zero fun k _ => owesUnit_recv d c k j (), Nat.zero_add, Nat.add_zero,
    Finset.sum_congr rfl fun k _ => owesCopy_recv d c k j]
  by_cases h : d = hop c j.rev
  · simp only [if_pos h, Finset.sum_ite_eq', Finset.mem_univ, if_true]
  · simp only [if_neg h, Finset.sum_const_zero]

omit [FloatOps F] in
/-- The devices together owe a barrier counter seven units. -/
theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun k _ => (Finset.sum_ite_eq' Finset.univ (hop c k.rev) fun _ => 1).trans (if_pos (Finset.mem_univ _)),
    Finset.sum_const, Finset.card_univ, Fintype.card_fin, smul_eq_mul]

omit [FloatOps F] in
/-- The devices together owe a receive counter one copy. -/
theorem launch_recv (c : Dev nD) (k : Fin 7) :
    tallyOn (recvCell c k) (launchCredit (Pipeline.owing O₀) 0 (recvCell c k)) = (tallyAt (recvCell c k) () N : CellTallies nD τ sig Unit) := by
  unfold tallyAt; refine congrArg _ (Finsupp.ext fun u => ?_); cases u
  rw [Pipeline.launchCredit_owing, Finsupp.single_eq_same, Finset.sum_congr rfl fun d _ => owed_recv d c k,
    Finset.sum_ite_eq' Finset.univ (hop c k.rev) fun _ => N, if_pos (Finset.mem_univ _)]

/-- The seven receive counters, as distinct semaphores. -/
def recvEmb : Fin 7 ↪ SemLoc sig := ⟨fun k => .dma (recvS k), fun j k h => recvS_inj j k (SemLoc.dma.inj h)⟩

omit [FloatOps F] in
/-- The launch deals device `c` seven units on its barrier counter and a block's credit on each receive counter. -/
theorem creds (c : Dev nD) : (Pipeline.launchCred O₀ c : sProp 𝕄)
    ⊢ iprop(cred (tallyAt (barCell c) () 7) ∗ bigSep Finset.univ fun k => cred (tallyAt (recvCell c k) () N)) := by
  unfold Pipeline.launchCred
  rw [bigSep_univ_at _ (SemLoc.reg barS), launch_bar]
  refine sep_mono_right ((bigSep_subset (t := Finset.univ.map recvEmb) ?_).trans ?_)
  · intro s hs
    obtain ⟨k, -, rfl⟩ := Finset.mem_map.mp hs
    exact Finset.mem_erase.mpr ⟨fun h => (by cases h), Finset.mem_univ _⟩
  · rw [bigSep_map]
    exact bigSep_mono fun k _ => Entails.of_eq (congrArg cred (launch_recv c k))

/-! ## The accumulator as eight blocks, the communication buffer as seven slots -/

/-- The elements of block `b` are those of its rectangle. -/
theorem blk_set (b : Dev nD) : (blkM b).view.set = (aR b).set := View.set_slice_whole _ _
/-- The elements of slot `k` are those of its rectangle. -/
theorem slot_set (k : Fin 7) : (slotM k).view.set = (cR k).set := (View.set_reshape _ _).trans (View.set_slice_whole _ _)

/-- Two blocks share no element. -/
theorem blk_disjoint (b b' : Dev nD) (h : b ≠ b') : Disjoint (aR b).set (aR b').set := by
  refine Rect.unit_disjoint 0 ?_
  have hne := Fin.val_ne_iff.mpr h
  show 128 * b.val + 128 ≤ 128 * b'.val ∨ 128 * b'.val + 128 ≤ 128 * b.val
  have h8 : b.val ≠ b'.val := hne
  generalize b.val = x at *; generalize b'.val = y at *; omega
/-- Two slots share no element. -/
theorem slot_disjoint (k k' : Fin 7) (h : k ≠ k') : Disjoint (cR k).set (cR k').set := by
  refine Rect.unit_disjoint 0 ?_
  have hne := Fin.val_ne_iff.mpr h
  show k.val + 1 ≤ k'.val ∨ k'.val + 1 ≤ k.val
  omega
/-- The eight blocks are the whole accumulator. -/
theorem blk_cover : (Finset.univ : Finset (Dev nD)).biUnion (fun b => (aR b).set) = Finset.univ := by
  refine Finset.eq_univ_iff_forall.mpr fun i => Finset.mem_biUnion.mpr ⟨⟨(i 0).val / 128, ?_⟩, Finset.mem_univ _, Rect.mem_set_unit.mpr fun a => ?_⟩
  · have : (i 0).val < 1024 := (i 0).isLt
    show _ < 8; omega
  · match a with
    | 0 => show 128 * ((i 0).val / 128) ≤ (i 0).val ∧ (i 0).val < 128 * ((i 0).val / 128) + 128; omega
    | 1 => exact ⟨Nat.zero_le _, by have := (i 1).isLt; show (i 1).val < 0 + 1024; rw [Nat.zero_add]; exact this⟩
/-- The seven slots are the whole communication buffer. -/
theorem slot_cover : (Finset.univ : Finset (Fin 7)).biUnion (fun k => (cR k).set) = Finset.univ := by
  refine Finset.eq_univ_iff_forall.mpr fun i => Finset.mem_biUnion.mpr ⟨⟨(i 0).val, (i 0).isLt⟩, Finset.mem_univ _, Rect.mem_set_unit.mpr fun a => ?_⟩
  match a with
  | 0 => show (i 0).val ≤ (i 0).val ∧ (i 0).val < (i 0).val + 1; omega
  | 1 => exact ⟨Nat.zero_le _, by have := (i 1).isLt; show (i 1).val < 0 + 128; rw [Nat.zero_add]; exact this⟩
  | 2 => exact ⟨Nat.zero_le _, by have := (i 2).isLt; show (i 2).val < 0 + 1024; rw [Nat.zero_add]; exact this⟩

/-- Device `c`'s own block and the blocks of the devices its copies go to are all eight. -/
def dest (c : Dev nD) : Option (Fin 7) → Dev nD
  | none => c
  | some k => hop c k
/-- A device's own block and the seven that it sends are all the blocks, each once. -/
theorem dest_bijective (c : Dev nD) : Function.Bijective (dest c) := by
  rw [Fintype.bijective_iff_injective_and_card]
  exact ⟨by revert c; decide, by decide⟩

omit [FloatOps F] in
/-- The eight blocks, in the order in which device `c` meets them: its own, then those of its copies. -/
theorem blocks_by_copy (c : Dev nD) (Φ : Dev nD → sProp 𝕄) :
    bigSep Finset.univ Φ = iprop(Φ c ∗ Φ (hop c 0) ∗ Φ (hop c 1) ∗ Φ (hop c 2) ∗ Φ (hop c 3) ∗ Φ (hop c 4) ∗ Φ (hop c 5) ∗ Φ (hop c 6)) := by
  rw [bigSep_univ_equiv (Equiv.ofBijective _ (dest_bijective c)),
    bigSep_univ_eq_bigSepL [none, some 0, some 1, some 2, some 3, some 4, some 5, some 6] (by decide) (by decide)]
  rfl
omit [FloatOps F] in
/-- Seven things, one by one. -/
theorem bigSep_seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

omit [FloatOps F] in
/-- The accumulator at something is its eight blocks, each at something. -/
theorem acc_split (c : Dev nD) : iprop(∃ f, ((c : Thread nD τ).loc cc0_scratch1) ↦{fullShare} f) ⊢ (bigSep Finset.univ (blkAny (F := F) c) : sProp 𝕄) := by
  have h (f : Buf (Elt F) ((c : Thread nD τ).loc cc0_scratch1)) : (((c : Thread nD τ).loc cc0_scratch1) ↦{fullShare} f : sProp 𝕄) ⊢ bigSep Finset.univ (blkAny (F := F) c) := by
    refine (Entails.of_eq (Ring.pointsTo_blocks (fun b : Dev nD => (aR b).set) blk_disjoint blk_cover f)).trans (bigSep_mono fun b _ => ?_)
    unfold blkAny; rw [blk_set]
    show (((c : Thread nD τ).loc cc0_scratch1) ↦[(aR b).set]{fullShare} f : sProp 𝕄) ⊢ iprop(∃ f, ((c : Thread nD τ).loc cc0_scratch1) ↦[(aR b).set]{fullShare} f)
    iintro H; iexists f; iexact H
  iintro ⟨%f, H⟩; iapply (h f); iexact H
omit [FloatOps F] in
/-- The eight blocks, each at something, are the accumulator at something. -/
theorem acc_join (c : Dev nD) (f₀ : Buf (Elt F) ((c : Thread nD τ).loc cc0_scratch1)) :
    (bigSep Finset.univ (blkAny (F := F) c) : sProp 𝕄) ⊢ iprop(∃ f, ((c : Thread nD τ).loc cc0_scratch1) ↦{fullShare} f) := by
  refine BIBase.Entails.trans (bigSep_mono fun b _ => ?_) (Ring.pointsTo_blocks_join_exists (fun b : Dev nD => (aR b).set) blk_disjoint blk_cover f₀)
  unfold blkAny; rw [blk_set]; exact BI.Entails.refl _
omit [FloatOps F] in
/-- The communication buffer at something is its seven slots, each at something. -/
theorem comm_split (c : Dev nD) : iprop(∃ f, ((c : Thread nD τ).loc cc0_scratch2) ↦{fullShare} f) ⊢ (bigSep Finset.univ (slotAny (F := F) c) : sProp 𝕄) := by
  have h (f : Buf (Elt F) ((c : Thread nD τ).loc cc0_scratch2)) : (((c : Thread nD τ).loc cc0_scratch2) ↦{fullShare} f : sProp 𝕄) ⊢ bigSep Finset.univ (slotAny (F := F) c) := by
    refine (Entails.of_eq (Ring.pointsTo_blocks (fun k : Fin 7 => (cR k).set) slot_disjoint slot_cover f)).trans (bigSep_mono fun b _ => ?_)
    unfold slotAny; rw [slot_set]
    show (((c : Thread nD τ).loc cc0_scratch2) ↦[(cR b).set]{fullShare} f : sProp 𝕄) ⊢ iprop(∃ f, ((c : Thread nD τ).loc cc0_scratch2) ↦[(cR b).set]{fullShare} f)
    iintro H; iexists f; iexact H
  iintro ⟨%f, H⟩; iapply (h f); iexact H
omit [FloatOps F] in
/-- The seven slots, each at something, are the communication buffer at something. -/
theorem comm_join (c : Dev nD) (f₀ : Buf (Elt F) ((c : Thread nD τ).loc cc0_scratch2)) :
    (bigSep Finset.univ (slotAny (F := F) c) : sProp 𝕄) ⊢ iprop(∃ f, ((c : Thread nD τ).loc cc0_scratch2) ↦{fullShare} f) := by
  refine BIBase.Entails.trans (bigSep_mono fun b _ => ?_) (Ring.pointsTo_blocks_join_exists (fun k : Fin 7 => (cR k).set) slot_disjoint slot_cover f₀)
  unfold slotAny; rw [slot_set]; exact BI.Entails.refl _

end Cert.Moe

end
-- ==== Proof.Moe.State.lean ====
/-
# What a device holds before and after its run of the kernel

Before: the facts shared by all devices (the invariants of the counters), its own positions at round 0, the tokens of
the duties that it pays, its credits and its scratch buffers. After: the scratch buffers at anything and every counter
at zero.
-/
module

public import proofs.«01_k».proof.Proof.Moe.Debts

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The counters' invariants under the names `K`, and that each counter has reached round 0: shared by all devices. -/
def records (K : Dev nD × Ctr → ℕ) : sProp 𝕄 :=
  iprop((bigSep Finset.univ fun ck : Dev nD × Ctr => cellInv EX (exch m ρ) (K ck) (cellAt ck))
    ∗ bigSep Finset.univ fun ck : Dev nD × Ctr => reached EX (cellAt ck) 0)

/-- What is shared may be used any number of times. -/
instance records_persistent (K : Dev nD × Ctr → ℕ) : BI.Persistent (records m ρ K) := by unfold records; infer_instance

/-- One counter's shared state, among all of them. -/
theorem inv_at (K : Dev nD × Ctr → ℕ) (c : Dev nD) (q : Ctr) : records m ρ K ⊢ cellInv EX (exch m ρ) (K (c, q)) (cellAt (c, q)) := by
  have h : (bigSep Finset.univ fun ck : Dev nD × Ctr => (cellInv EX (exch m ρ) (K ck) (cellAt ck) : sProp 𝕄)) ⊢ cellInv EX (exch m ρ) (K (c, q)) (cellAt (c, q)) :=
    bigSep_elim (Finset.mem_univ (c, q))
  unfold records; iintro ⟨H, -⟩; iapply h; iexact H
/-- One counter's record that round 0 is reached, among all of them. -/
theorem reached_at (K : Dev nD × Ctr → ℕ) (c : Dev nD) (q : Ctr) : records m ρ K ⊢ reached EX (cellAt (c, q)) 0 := by
  have h : (bigSep Finset.univ fun ck : Dev nD × Ctr => (reached EX (cellAt ck) 0 : sProp 𝕄)) ⊢ reached EX (cellAt (c, q)) 0 := bigSep_elim (Finset.mem_univ (c, q))
  unfold records; iintro ⟨-, H⟩; iapply h; iexact H

/-- The tokens of the three duties that device `c` pays with its `k`-th signal and copy. -/
def payTok (c : Dev nD) (k : Fin 7) : sProp 𝕄 :=
  iprop(dutyTok EX (barCell (hop c k)) 0 k.rev ∗ dutyTok EX (sendCell c k) 0 0 ∗ dutyTok EX (recvCell (hop c k) k) 0 0)

/-- What device `c` alone holds of the schedule: its positions at round 0 and the tokens that it pays with. -/
def linear (c : Dev nD) : sProp 𝕄 :=
  iprop((bigSep Finset.univ fun q : Ctr => atPos EX (cellAt (c, q)) 0 ∅ 0) ∗ bigSep Finset.univ (payTok (F := F) c))

/-- What device `c` starts from besides its buffers. -/
def start (c : Dev nD) : sProp 𝕄 :=
  iprop((∃ K, records m ρ K ∗ linear c) ∗ (cred (tallyAt (barCell c) () 7) ∗ bigSep Finset.univ fun k => cred (tallyAt (recvCell c k) () N)) ∗ levAts L lv)

/-- The keep mask's buffer of device `c`, at anything. -/
def maskAny (c : Dev nD) : sProp 𝕄 := iprop(∃ f, ((c : Thread nD τ).loc cc0_scratch0) ↦{fullShare} f)

/-- The state before the kernel's one step: all the scratch buffers at anything, and nothing exchanged yet. -/
def Φ₀ (c : Dev nD) : sProp 𝕄 :=
  iprop(start m ρ c ∗ maskAny c ∗ bigSep Finset.univ (blkAny (F := F) c) ∗ bigSep Finset.univ (slotAny (F := F) c))
/-- The state after it: all the scratch buffers at anything, and every counter at zero. -/
def Φ₁ (c : Dev nD) : sProp 𝕄 :=
  iprop(maskAny c ∗ bigSep Finset.univ (blkAny (F := F) c) ∗ bigSep Finset.univ (slotAny (F := F) c) ∗ bigSep Finset.univ fun q : Ctr => semVal (cellAt (c, q)) 0)

/-- The run's data for the staging pipeline: the arrays' launch contents, what each staging buffer holds after the one
    step, the debts before and after. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs m ρ c
    | ⟨1, _⟩ => is m ρ c
    | ⟨2, _⟩ => ws m ρ c
    | ⟨3, _⟩ => total m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-- No measure is needed: the kernel has no unbounded loop. -/
abbrev 𝒱₀ : Variants := Variants.none

omit [FloatOps F] in
/-- The fifteen counters, one by one in three groups. -/
theorem bigSep_ctr (Φ : Ctr → sProp 𝕄) : bigSep Finset.univ Φ
    = iprop(Φ none ∗ (bigSep Finset.univ fun k => Φ (some (false, k))) ∗ bigSep Finset.univ fun k => Φ (some (true, k))) := by
  have h : (Finset.univ.erase (none : Ctr)) = Finset.univ.map Function.Embedding.some := by decide
  rw [bigSep_univ_at Φ none, h, bigSep_map, bigSep_univ_prod, bigSep_univ_eq_bigSepL [false, true] (by decide) (by decide)]
  rfl

omit [FloatOps F] in
/-- To own a whole buffer is to hold its location at its contents. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

end Cert.Moe

end
-- ==== Proof.Moe.Steps.lean ====
/-
# The run's repeated steps, each stated once for every copy number

A signal; the computation of one block and its copy; the two waits of one copy and the reading of the slot; and the
computation of one block alone. Offsets, devices, counters and slots are variables with equations, so that one statement
serves every place in the program.
-/
module

public import proofs.«01_k».proof.Proof.Moe.State

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

local notation "Thr" => Thread nD τ

/-- Device `c`'s tokens at their contents. -/
def tokensAt (c : Dev nD) : sProp 𝕄 := ((c : Thr).loc cc0_stg0_0) ↦{fullShare} xs m ρ c
/-- Device `c`'s keep mask at its contents. -/
def maskAt (c : Dev nD) : sProp 𝕄 := ((c : Thr).loc cc0_scratch0) ↦{fullShare} keeps m ρ c

/-- What device `c` gives away with signal `k`. -/
abbrev sigKit (c : Dev nD) (k : Fin 7) : sProp 𝕄 := iprop(dutyTok EX (barCell (hop c k)) 0 k.rev ∗ slotAny c k.rev)
/-- What copy `k` needs of device `c`'s own. -/
abbrev sendKit (c : Dev nD) (k : Fin 7) : sProp 𝕄 :=
  iprop(blkAny c (hop c k) ∗ dutyTok EX (sendCell c k) 0 0 ∗ dutyTok EX (recvCell (hop c k) k) 0 0)
/-- What the end of copy `k` needs. -/
abbrev endKit (c : Dev nD) (k : Fin 7) : sProp 𝕄 :=
  iprop(atPos EX (sendCell c k) 0 ∅ 0 ∗ cred (tallyAt (recvCell c k) () N) ∗ atPos EX (recvCell c k) 0 ∅ 0)
/-- What the end of copy `k` leaves: both counters at zero, the sent block and the slot. -/
abbrev doneKit (c : Dev nD) (k : Fin 7) : sProp 𝕄 :=
  iprop(semVal (sendCell c k) 0 ∗ semVal (recvCell c k) 0 ∗ blkAny (F := F) c (hop c k) ∗ slotAny c k)

/-- The `k`-th signal, to the device `k + 1` places further: its debt is paid with the slot that the receiver copies into. -/
theorem signal_step (K : Dev nD × Ctr → ℕ) (c n : Dev nD) (k : Fin 7) (hn : n = hop c k) (O : CellTallies nD τ sig Unit) (W : Waits sig Unit)
    {α : Type} {Q : α → sProp 𝕄} {kont : PUnit → Prog (TpuEff nD τ sig (Elt F) Λ₀ .tc) α} :
    iprop(records m ρ K ∗ owes (c : Thr) (O + owesUnit c k) W ∗ sigKit c k)
      ⊢ iprop((owes (c : Thr) O W -∗ wp frame (wpE (defs₀ (F := F)) 𝒱₀ (c : Thr) none) Set.univ (kont ⟨⟩) Q)
          -∗ wp frame (wpE (defs₀ (F := F)) 𝒱₀ (c : Thr) none) Set.univ (.op (.semSignal (n, .tc) barS (1#32).toInt) kont) Q) := by
  subst hn
  have hp : (exch m ρ).payload (barCell (hop c k)) 0 k.rev = iprop(slotAny c k.rev ∗ reached EX (recvCell c k.rev) 0) := by
    refine (payload_at m ρ (hop c k) none k.rev).trans ?_
    show barPay (hop c k) k.rev = _
    unfold barPay; rw [hop_rev]
  iintro ⟨#HR, HO, Htok, Hslot⟩
  iapply (Rounds.wp_signal 𝒱₀ EX (exch m ρ) (c : Thr) none (dst := (hop c k : Thr)) (κ := K (hop c k, none)) (d := k.rev) (k' := 1)
    (by rw [duties_bar]; exact Finset.mem_univ _) (amount_bar m ρ (hop c k) k.rev) () O rfl)
  isplitr; · iapply (inv_at m ρ K (hop c k) none); iexact HR
  isplitl [HO]; · iexact HO
  isplitl [Htok]; · iexact Htok
  isplitl [Hslot]
  · rw [hp]
    isplitl [Hslot]; · iexact Hslot
    iapply (reached_at m ρ K c (some (true, k.rev))); iexact HR
  · iapply (reached_at m ρ K (hop c k) none); iexact HR

/-- What a signal hands over holds the slot that the copy lands in. -/
theorem barPay_slot (c : Dev nD) (k : Fin 7) : barPay (F := F) c k ⊢ slotAny (F := F) (hop c k) k := by
  unfold barPay; iintro ⟨H, -⟩; iexact H

/-- The wait for the seven signals: the seven slots that the copies land in, and the barrier counter at zero. -/
theorem barrier_step (K : Dev nD × Ctr → ℕ) (c : Dev nD) (W : Waits sig Unit)
    {α : Type} {Q : α → sProp 𝕄} {kont : PUnit → Prog (TpuEff nD τ sig (Elt F) Λ₀ .tc) α} :
    iprop(records m ρ K ∗ levAts L lv ∗ cred (tallyAt (barCell c) () 7) ∗ owes (c : Thr) (O₁ c) W ∗ atPos EX (cellAt (c, none)) 0 ∅ 0)
      ⊢ iprop((∀ W', owes (c : Thr) (O₁ c) W' ∗ semVal (cellAt (c, none)) 0 ∗ (bigSep Finset.univ fun k => slotAny (F := F) (hop c k) k)
              -∗ wp frame (wpE (defs₀ (F := F)) 𝒱₀ (c : Thr) none) Set.univ (kont ⟨⟩) Q)
          -∗ wp frame (wpE (defs₀ (F := F)) 𝒱₀ (c : Thr) none) Set.univ (.op (.semWait barS (7#32).toInt) kont) Q) := by
  have hslots : (bigSep Finset.univ fun k => barPay (F := F) c k) ⊢ (bigSep Finset.univ fun k => slotAny (F := F) (hop c k) k : sProp 𝕄) :=
    bigSep_mono fun k _ => barPay_slot c k
  iintro ⟨#HR, #Hlev, Hc, HO, Hat⟩ Hk
  iapply (Rounds.wp_wait_rest_token 𝒱₀ EX (exch m ρ) (c : Thr) none (κ := K (c, none)) (k' := 7)
      (wpE_semWait_eq 𝒱₀ (c : Thr) none Set.univ) (Set.mem_univ _) () (O := O₁ c) (W := W) (R := 0) (m := 0) (T := ∅)
      (by rw [expect_bar])) $$ [Hc HO Hat]
  · isplitr; · iapply (inv_at m ρ K c none); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar m ρ c)) $$ Hpay
  imod (Rounds.cell_close EX (exch m ρ) (Set.mem_univ (K (c, none))) (fun h => h) (R := 0 + 1) (duties_later m ρ (barCell c))) $$ [Hat] with Hz
  · isplitr; · iapply (inv_at m ρ K c none); iexact HR
    iexact Hat
  iapply Hk
  isplitl [HO]; · iexact HO
  isplitl [Hz]; · iexact Hz
  iapply hslots
  iexact Hp

/-- One block: read its tokens and its part of the keep mask, compute, write the block into the accumulator. -/
theorem block_step (c b : Dev nD) {o₁ o₂ o₃ o₄ : Fin 2 → ℕ} {p₁ p₂ p₃ p₄} (h₁ : o₁ = ![128 * b.val, 0]) (h₂ : o₂ = ![128 * b.val, 0])
    (h₃ : o₃ = ![128 * b.val, 0]) (h₄ : o₄ = ![128 * b.val, 0]) {l₁ l₂ l₃ l₄ l₅}
    (w : Vec F S128x512 .bf16 → Vec F S128x4 .f32 → FVec F S128x1024 .bf16)
    (hw : w (xM.view.readAt (Elt F) (xR b).toLoadRect (xs m ρ c)) (kM.view.readAt (Elt F) (kR b).toLoadRect (keeps m ρ c)) = part m ρ c b)
    {α : Type} {Q : α → sProp 𝕄} {kont : PUnit → Prog (TpuEff nD τ sig (Elt F) Λ₀ .tc) α} :
    iprop(tokensAt m ρ c ∗ maskAt m ρ c ∗ blkAny c b)
      ⊢ iprop((tokensAt m ρ c ∗ maskAt m ρ c ∗ blkHas c b (part m ρ c b) -∗ wp frame (wpE (defs₀ (F := F)) 𝒱₀ (c : Thr) none) Set.univ (kont ⟨⟩) Q)
          -∗ wp frame (wpE (defs₀ (F := F)) 𝒱₀ (c : Thr) none) Set.univ
              (.op (.load xM (Rect.unit (s := S1024x512) o₁ S128x512.size p₁).toLoadRect l₁) fun v₁ =>
                .op (.load kM (Rect.unit (s := S1024x4) o₂ S128x4.size p₂).toLoadRect l₂) fun v₂ =>
                .op (.load aM (Rect.unit (s := S1024x1024) o₃ S128x1024.size p₃).toLoadRect l₃) fun _ =>
                .op (.store aM (Rect.unit (s := S1024x1024) o₄ S128x1024.size p₄) (w v₁ v₂) Finset.univ l₄ l₅) kont) Q) := by
  subst h₁ h₂ h₃ h₄
  unfold tokensAt maskAt blkAny
  iintro ⟨Hx, Hm, ⟨%f, Hb⟩⟩ Hk
  iapply (wp_load 𝒱₀ (c : Thr) none Set.univ (m := xM) (Finset.subset_univ _)) $$ Hx; iintro Hx
  iapply (wp_load 𝒱₀ (c : Thr) none Set.univ (m := kM) (Finset.subset_univ _)) $$ Hm; iintro Hm
  iapply (wp_load_rect 𝒱₀ (c : Thr) none Set.univ (m := aM) (r := aR b) (S := (blkM b).view.set) (Finset.Subset.refl _)) $$ Hb; iintro Hb
  iapply (wp_store 𝒱₀ (c : Thr) none Set.univ (m := aM) (r := aR b) (S := (blkM b).view.set) (Finset.Subset.refl _)) $$ Hb; iintro Hb
  iapply Hk
  isplitl [Hx]; · iexact Hx
  isplitl [Hm]; · iexact Hm
  unfold blkHas
  iexists ((aM.access (aR b)).write (Elt F) f
    (w (xM.view.readAt (Elt F) (xR b).toLoadRect (xs m ρ c)) (kM.view.readAt (Elt F) (kR b).toLoadRect (keeps m ρ c))) Finset.univ)
  isplitr
  · ipureintro; exact (View.read_write_univ (v := (blkM b).view) f _).trans hw
  iexact Hb

/-- Reading a block that is held at `v` gives `v`. -/
theorem read_block (c b : Dev nD) {o : Fin 2 → ℕ} {p} (h : o = ![128 * b.val, 0]) {l} {v : FVec F S128x1024 .bf16}
    {α : Type} {Q : α → sProp 𝕄} {kont : Vec F S128x1024 .bf16 → Prog (TpuEff nD τ sig (Elt F) Λ₀ .tc) α} :
    blkHas (F := F) c b v
      ⊢ iprop((blkAny c b -∗ wp frame (wpE (defs₀ (F := F)) 𝒱₀ (c : Thr) none) Set.univ (kont v) Q)
          -∗ wp frame (wpE (defs₀ (F := F)) 𝒱₀ (c : Thr) none) Set.univ
              (.op (.load aM (Rect.unit (s := S1024x1024) o S128x1024.size p).toLoadRect l) kont) Q) := by
  subst h
  unfold blkHas blkAny
  iintro ⟨%f, %hf, Hb⟩ Hk
  iapply (wp_load_rect 𝒱₀ (c : Thr) none Set.univ (m := aM) (r := aR b) (S := (blkM b).view.set) (Finset.Subset.refl _)) $$ Hb; iintro Hb
  rw [show (aM.access (aR b)).read (Elt F) f = v from hf]
  iapply Hk
  iexists f; iexact Hb

/-- The `k`-th copy: the block goes to slot `k` of the device `k + 1` places further, paying the debt to it. -/
theorem copy_step (K : Dev nD × Ctr → ℕ) (c n : Dev nD) (k : Fin 7) (hn : n = hop c k) {o : Fin 2 → ℕ} {p} (ho : o = ![128 * (hop c k).val, 0])
    (slot : Memref sig .tc .vmem S128x1024 .bf16) (hslot : slot = slotM k) (sS rS : DmaSem sig) (hs : sS = sendS k) (hr : rS = recvS k)
    {hc : ∀ a, (Rect.unit (s := S1024x1024) o S128x1024.size p).stride a = 1}
    {hsc : (slot : Memref sig (Dev.tc n : Thr).2.kind .vmem S128x1024 .bf16).view.ref.isScScratch = false} {e₁ e₂ e₃}
    (O : CellTallies nD τ sig Unit) (W : Waits sig Unit)
    {α : Type} {Q : α → sProp 𝕄} {kont : PUnit → Prog (TpuEff nD τ sig (Elt F) Λ₀ .tc) α} :
    iprop(records m ρ K ∗ blkHas c (hop c k) (part m ρ c (hop c k)) ∗ slotAny (hop c k) k ∗ owes (c : Thr) (O + owesCopy c k) W
        ∗ dutyTok EX (sendCell c k) 0 0 ∗ dutyTok EX (recvCell (hop c k) k) 0 0)
      ⊢ iprop(((cred (tallyAt (sendCell c k) () N) ∗ owes (c : Thr) O W) -∗ wp frame (wpE (defs₀ (F := F)) 𝒱₀ (c : Thr) none) Set.univ (kont ⟨⟩) Q)
          -∗ wp frame (wpE (defs₀ (F := F)) 𝒱₀ (c : Thr) none) Set.univ
              (.op (.enqueueDma (aM.slice (Rect.unit (s := S1024x1024) o S128x1024.size p) hc)
                (.remote (Dev.tc n : Thr) slot (.dma sS) hsc) (.dma rS) e₁ e₂ e₃) kont) Q) := by
  subst hn ho hslot hs hr
  unfold blkHas slotAny
  iintro ⟨#HR, ⟨%fs, %hfs, Hb⟩, ⟨%fd, Hd⟩, HO, Ht, Ht'⟩
  iapply (Rounds.wp_send_pointsTo 𝒱₀ EX (exch m ρ) (c : Thr) none (κ₁ := K (c, some (false, k))) (κ₂ := K (hop c k, some (true, k)))
    (r₁ := 0) (r₂ := 0) (d₁ := 0) (d₂ := 0) (fd := fd)
    (by rw [show ((c : Thr), SemLoc.dma (sendS k)) = cellAt (c, some (false, k)) from rfl, duties_one]; exact Finset.mem_singleton_self _)
    (by rw [show ((hop c k : Thr), SemLoc.dma (recvS k)) = cellAt (hop c k, some (true, k)) from rfl, duties_one]; exact Finset.mem_singleton_self _)
    () () N rfl (amount_one m ρ c (false, k) 0) (amount_one m ρ (hop c k) (true, k) 0) O rfl (W := W)
    ((show _ ⊢ blkAny c (hop c k) from by
      unfold blkAny; show ((blkM (hop c k)).view.loc (c : Thr) ↦[(blkM (hop c k)).view.set]{fullShare} fs : sProp 𝕄) ⊢ _
      iintro H; iexists fs; iexact H).trans (Entails.of_eq (payload_at m ρ c (some (false, k)) 0).symm))
    ((show _ ⊢ slotHas (hop c k) k (arrives m ρ (hop c k) k) from by
      unfold slotHas
      show ((slotM k).view.loc (hop c k : Thr) ↦[(slotM k).view.set]{fullShare} ((slotM k).view.write (Elt F) fd ((blkM (hop c k)).view.read (Elt F) fs) Finset.univ) : sProp 𝕄) ⊢ _
      iintro H; iexists ((slotM k).view.write (Elt F) fd ((blkM (hop c k)).view.read (Elt F) fs) Finset.univ); isplitr
      · ipureintro; unfold arrives; rw [View.read_write_univ, hfs, hop_rev]
      iexact H).trans (Entails.of_eq (payload_at m ρ (hop c k) (some (true, k)) 0).symm)))
  isplitr; · iapply (inv_at m ρ K c (some (false, k))); iexact HR
  isplitr; · iapply (inv_at m ρ K (hop c k) (some (true, k))); iexact HR
  isplitl [Hb]; · iexact Hb
  isplitl [Hd]; · iexact Hd
  isplitl [HO]; · iexact HO
  isplitl [Ht]; · iexact Ht
  isplitr; · iapply (reached_at m ρ K c (some (false, k))); iexact HR
  isplitl [Ht']; · iexact Ht'
  iapply (reached_at m ρ K (hop c k) (some (true, k))); iexact HR

/-- One block computed and copied off. -/
theorem send_step (K : Dev nD × Ctr → ℕ) (c n : Dev nD) (k : Fin 7) (hn : n = hop c k) {o₁ o₂ o₃ o₄ o : Fin 2 → ℕ} {p₁ p₂ p₃ p₄ p}
    (h₁ : o₁ = ![128 * (hop c k).val, 0]) (h₂ : o₂ = ![128 * (hop c k).val, 0])
    (h₃ : o₃ = ![128 * (hop c k).val, 0]) (h₄ : o₄ = ![128 * (hop c k).val, 0]) (ho : o = ![128 * (hop c k).val, 0]) {l₁ l₂ l₃ l₄ l₅}
    (slot : Memref sig .tc .vmem S128x1024 .bf16) (hslot : slot = slotM k) (sS rS : DmaSem sig) (hs : sS = sendS k) (hr : rS = recvS k)
    {hc : ∀ a, (Rect.unit (s := S1024x1024) o S128x1024.size p).stride a = 1}
    {hsc : (slot : Memref sig (Dev.tc n : Thr).2.kind .vmem S128x1024 .bf16).view.ref.isScScratch = false} {e₁ e₂ e₃}
    (w : Vec F S128x512 .bf16 → Vec F S128x4 .f32 → FVec F S128x1024 .bf16)
    (hw : w (xM.view.readAt (Elt F) (xR (hop c k)).toLoadRect (xs m ρ c)) (kM.view.readAt (Elt F) (kR (hop c k)).toLoadRect (keeps m ρ c)) = part m ρ c (hop c k))
    (O : CellTallies nD τ sig Unit) (W : Waits sig Unit)
    {α : Type} {Q : α → sProp 𝕄} {kont : PUnit → Prog (TpuEff nD τ sig (Elt F) Λ₀ .tc) α} :
    iprop(records m ρ K ∗ tokensAt m ρ c ∗ maskAt m ρ c ∗ owes (c : Thr) (O + owesCopy c k) W ∗ sendKit c k ∗ slotAny (hop c k) k)
      ⊢ iprop(((tokensAt m ρ c ∗ maskAt m ρ c ∗ cred (tallyAt (sendCell c k) () N) ∗ owes (c : Thr) O W)
            -∗ wp frame (wpE (defs₀ (F := F)) 𝒱₀ (c : Thr) none) Set.univ (kont ⟨⟩) Q)
          -∗ wp frame (wpE (defs₀ (F := F)) 𝒱₀ (c : Thr) none) Set.univ
              (.op (.load xM (Rect.unit (s := S1024x512) o₁ S128x512.size p₁).toLoadRect l₁) fun v₁ =>
                .op (.load kM (Rect.unit (s := S1024x4) o₂ S128x4.size p₂).toLoadRect l₂) fun v₂ =>
                .op (.load aM (Rect.unit (s := S1024x1024) o₃ S128x1024.size p₃).toLoadRect l₃) fun _ =>
                .op (.store aM (Rect.unit (s := S1024x1024) o₄ S128x1024.size p₄) (w v₁ v₂) Finset.univ l₄ l₅) fun _ =>
                .op (.enqueueDma (aM.slice (Rect.unit (s := S1024x1024) o S128x1024.size p) hc)
                  (.remote (Dev.tc n : Thr) slot (.dma sS) hsc) (.dma rS) e₁ e₂ e₃) kont) Q) := by
  iintro ⟨#HR, Hx, Hm, HO, ⟨Hb, Ht, Ht'⟩, Hd⟩ Hk
  iapply (block_step m ρ c (hop c k) h₁ h₂ h₃ h₄ w hw) $$ [Hx Hm Hb]
  · isplitl [Hx]; · iexact Hx
    isplitl [Hm] <;> iassumption
  iintro ⟨Hx, Hm, Hb⟩
  iapply (copy_step m ρ K c n k hn ho slot hslot sS rS hs hr O W) $$ [Hb Hd HO Ht Ht']
  · isplitr; · iexact HR
    isplitl [Hb]; · iexact Hb
    isplitl [Hd]; · iexact Hd
    isplitl [HO]; · iexact HO
    isplitl [Ht] <;> iassumption
  iintro ⟨Hc, HO⟩
  iapply Hk
  isplitl [Hx]; · iexact Hx
  isplitl [Hm]; · iexact Hm
  isplitl [Hc] <;> iassumption

/-- A wait for a send or receive counter's one landing: what the landing hands over, and the counter at zero. -/
theorem wait_step (K : Dev nD × Ctr → ℕ) (c : Dev nD) (d : Bool × Fin 7) (s : DmaSem sig) (hs : SemLoc.dma s = ctr (some d))
    {sp' sp : Space} {s' t : Shape} {e' e : EltTy} {src : Memref sig .tc sp' s' e'} {dst : Memref sig .tc sp t e} (hN : dst.view.dmaCredit = N)
    {e₁ : src.view.WordExact} {e₂ : dst.view.WordExact} (W : Waits sig Unit)
    {α : Type} {Q : α → sProp 𝕄} {kont : PUnit → Prog (TpuEff nD τ sig (Elt F) Λ₀ .tc) α} :
    iprop(records m ρ K ∗ cred (tallyAt (cellAt (c, some d)) () N) ∗ owes (c : Thr) 0 W ∗ atPos EX (cellAt (c, some d)) 0 ∅ 0)
      ⊢ iprop((∀ W', owes (c : Thr) 0 W' ∗ semVal (cellAt (c, some d)) 0 ∗ pay m ρ c (some d) 0
              -∗ wp frame (wpE (defs₀ (F := F)) 𝒱₀ (c : Thr) none) Set.univ (kont ⟨⟩) Q)
          -∗ wp frame (wpE (defs₀ (F := F)) 𝒱₀ (c : Thr) none) Set.univ (.op (.waitDma2 s src dst e₁ e₂) kont) Q) := by
  have hcell : ((c : Thr), SemLoc.dma s) = cellAt (c, some d) := congrArg (Prod.mk (c : Thr)) hs
  rw [← hcell, ← hN]
  iintro ⟨#HR, Hc, HO, Hat⟩ Hk
  iapply (Rounds.wp_wait_rest_token 𝒱₀ EX (exch m ρ) (c : Thr) none (κ := K (c, some d))
      (wpE_waitDma2_eq 𝒱₀ (c : Thr) none Set.univ) (Set.mem_univ _) () (O := 0) (W := W) (R := 0) (m := 0) (T := ∅)
      (by rw [hcell, Nat.zero_add, hN]; exact (expect_one m ρ c d).symm)) $$ [Hc HO Hat]
  · isplitr; · rw [hcell]; iapply (inv_at m ρ K c (some d)); iexact HR
    isplitl [Hc]; · iexact Hc
    isplitl [HO]; · iexact HO
    isplitr; · rw [MayWait_zero]; iempintro
    iexact Hat
  rw [hcell]
  iintro ⟨HO, Hat, -, Hpay⟩
  ihave Hp := (Entails.of_eq (rest_one m ρ c d)) $$ Hpay
  imod (Rounds.cell_close EX (exch m ρ) (Set.mem_univ (K (c, some d))) (fun h => h) (R := 0 + 1) (duties_later m ρ (cellAt (c, some d)))) $$ [Hat] with Hz
  · isplitr; · iapply (inv_at m ρ K c (some d)); iexact HR
    iexact Hat
  iapply Hk
  isplitl [HO]; · iexact HO
  isplitl [Hz]; · iexact Hz
  iexact Hp

/-- The end of copy `k` on both sides: the sent block back, and the slot with the block that arrived, read. -/
theorem finish_step (K : Dev nD × Ctr → ℕ) (c : Dev nD) (k : Fin 7) (s r : DmaSem sig) (hs : s = sendS k) (hr : r = recvS k)
    {sp₁ sp₃ : Space} {t₁ t₃ : Shape} {y₁ y₃ : EltTy} {o₁ : Fin 2 → ℕ} {p₁}
    {src : Memref sig .tc sp₁ t₁ y₁} {hc : ∀ a, (Rect.unit (s := S1024x1024) o₁ S128x1024.size p₁).stride a = 1} {e₁ : src.view.WordExact} {e₂ : (aM.slice (Rect.unit (s := S1024x1024) o₁ S128x1024.size p₁) hc).view.WordExact}
    {src' : Memref sig .tc sp₃ t₃ y₃} (dst' : Memref sig .tc .vmem S128x1024 .bf16) (hd : dst' = slotM k) {e₃ : src'.view.WordExact} {e₄ : dst'.view.WordExact}
    {o : Fin 3 → ℕ} {p} (ho : o = ![k.val, 0, 0]) {l} (W : Waits sig Unit)
    {α : Type} {Q : α → sProp 𝕄} {kont : Vec F S1x128x1024 .bf16 → Prog (TpuEff nD τ sig (Elt F) Λ₀ .tc) α} :
    iprop(records m ρ K ∗ owes (c : Thr) 0 W ∗ cred (tallyAt (sendCell c k) () N) ∗ endKit c k)
      ⊢ iprop((∀ W', ∀ v, ⌜shapeCast S128x1024 v shapeCasts_S1x128x1024_S128x1024 = arrives m ρ c k⌝
              -∗ (owes (c : Thr) 0 W' ∗ doneKit c k)
              -∗ wp frame (wpE (defs₀ (F := F)) 𝒱₀ (c : Thr) none) Set.univ (kont v) Q)
          -∗ wp frame (wpE (defs₀ (F := F)) 𝒱₀ (c : Thr) none) Set.univ
              (.op (.waitDma2 s src (aM.slice (Rect.unit (s := S1024x1024) o₁ S128x1024.size p₁) hc) e₁ e₂) fun _ => .op (.waitDma2 r src' dst' e₃ e₄) fun _ =>
                .op (.load cM (Rect.unit (s := S7x128x1024) o S1x128x1024.size p).toLoadRect l) kont) Q) := by
  subst hs hr hd ho
  have hN : (aM.slice (Rect.unit (s := S1024x1024) o₁ S128x1024.size p₁) hc).view.dmaCredit = N := rfl
  have hN' : (slotM k).view.dmaCredit = N := rfl
  iintro ⟨#HR, HO, Hc, Ha, Hc', Ha'⟩ Hk
  iapply (wait_step m ρ K c (false, k) (sendS k) rfl hN W) $$ [Hc HO Ha]
  · isplitr; · iexact HR
    isplitl [Hc]; · iexact Hc
    isplitl [HO] <;> iassumption
  iintro %W₁ ⟨HO, Hz, Hb⟩
  iapply (wait_step m ρ K c (true, k) (recvS k) rfl hN' W₁) $$ [Hc' HO Ha']
  · isplitr; · iexact HR
    isplitl [Hc']; · iexact Hc'
    isplitl [HO] <;> iassumption
  iintro %W₂ ⟨HO, Hz', Hs⟩
  ihave Hs := (show pay m ρ c (some (true, k)) 0 ⊢ slotHas c k (arrives m ρ c k) from BI.Entails.refl _) $$ Hs
  unfold slotHas
  icases Hs with ⟨%f, %hf, Hs⟩
  iapply (wp_load_rect 𝒱₀ (c : Thr) none Set.univ (m := cM) (r := cR k) (S := (slotM k).view.set)
    (by rw [slot_set]; exact (View.set_slice_whole _ _).subset)) $$ Hs; iintro Hs
  iapply Hk
  · ipureintro; exact hf
  isplitl [HO]; · iexact HO
  isplitl [Hz]; · iexact Hz
  isplitl [Hz']; · iexact Hz'
  isplitl [Hb]
  · iapply (show pay m ρ c (some (false, k)) 0 ⊢ blkAny c (hop c k) from BI.Entails.refl _); iexact Hb
  unfold slotAny; iexists f; iexact Hs

end Cert.Moe

end
-- ==== Proof.Moe.Body.lean ====
/-
# The kernel's run on one device

From the launch's holdings to the result: signals, the wait for them, the keep mask, the seven copies, the device's own
block, the seven ends of copies with the running sum, and the store of the result.
-/
module

public import proofs.«01_k».proof.Proof.Moe.Steps

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

local notation "Thr" => Thread nD τ

omit [FloatOps F] in
/-- The launch's holdings, sorted by what each copy needs. -/
theorem sort_kits (c : Dev nD) :
    iprop(linear c ∗ (bigSep Finset.univ fun k => cred (tallyAt (recvCell c k) () N)) ∗ bigSep Finset.univ (blkAny (F := F) c) ∗ bigSep Finset.univ (slotAny (F := F) c))
      ⊢ iprop(atPos EX (cellAt (c, none)) 0 ∅ 0 ∗ blkAny c c ∗ (bigSep Finset.univ fun k => sigKit (F := F) c k)
          ∗ (bigSep Finset.univ fun k => sendKit (F := F) c k) ∗ bigSep Finset.univ fun k => endKit (F := F) c k) := by
  unfold linear payTok
  rw [bigSep_ctr, blocks_by_copy c]
  have hb : iprop(blkAny (F := F) c (hop c 0) ∗ blkAny (F := F) c (hop c 1) ∗ blkAny (F := F) c (hop c 2) ∗ blkAny (F := F) c (hop c 3) ∗ blkAny (F := F) c (hop c 4)
      ∗ blkAny (F := F) c (hop c 5) ∗ blkAny (F := F) c (hop c 6)) ⊢ bigSep Finset.univ fun k => blkAny (F := F) c (hop c k) := Entails.of_eq (bigSep_seven fun k => blkAny (F := F) c (hop c k)).symm
  have hs : bigSep Finset.univ (slotAny (F := F) c) ⊢ bigSep Finset.univ fun k : Fin 7 => slotAny (F := F) c k.rev := Entails.of_eq (bigSep_univ_equiv Fin.revPerm _)
  simp only [bigSep_sep']
  iintro ⟨⟨⟨HaB, HaS, HaV⟩, HtB, HtS, HtV⟩, Hc, ⟨Hown, Hb⟩, Hs⟩
  isplitl [HaB]; · iexact HaB
  isplitl [Hown]; · iexact Hown
  isplitl [HtB Hs]
  · isplitl [HtB]; · iexact HtB
    iapply hs; iexact Hs
  isplitl [Hb HtS HtV]
  · isplitl [Hb]; · iapply hb; iexact Hb
    isplitl [HtS] <;> iassumption
  isplitl [HaS]; · iexact HaS
  isplitl [Hc] <;> iassumption

omit [FloatOps F] in
/-- What the ends of the seven copies leave, with the device's own block and the barrier counter, is what the run ends with. -/
theorem gather_kits (c : Dev nD) :
    iprop(maskAny c ∗ semVal (cellAt (c, none)) 0 ∗ blkAny (F := F) c c ∗ bigSep Finset.univ fun k => doneKit (F := F) c k) ⊢ Φ₁ (F := F) c := by
  unfold Φ₁
  rw [bigSep_ctr, blocks_by_copy c]
  have hb : (bigSep Finset.univ fun k => blkAny (F := F) c (hop c k)) ⊢ iprop(blkAny (F := F) c (hop c 0) ∗ blkAny (F := F) c (hop c 1) ∗ blkAny (F := F) c (hop c 2)
      ∗ blkAny (F := F) c (hop c 3) ∗ blkAny (F := F) c (hop c 4) ∗ blkAny (F := F) c (hop c 5) ∗ blkAny (F := F) c (hop c 6)) := Entails.of_eq (bigSep_seven fun k => blkAny (F := F) c (hop c k))
  simp only [bigSep_sep']
  iintro ⟨Hm, Hz, Hown, HzS, HzV, Hb, Hs⟩
  isplitl [Hm]; · iexact Hm
  isplitl [Hown Hb]
  · isplitl [Hown]; · iexact Hown
    iapply hb; iexact Hb
  isplitl [Hs]; · iexact Hs
  isplitl [Hz]; · iexact Hz
  isplitl [HzS] <;> iassumption

/-- A whole staging buffer of device `c`, holding `X`. -/
abbrev stg (c : Dev nD) (b : Ref sig .tc) (X : b.ty.Contents (Elt F)) : sProp 𝕄 :=
  iprop(∃ f : Buf (Elt F) (((c : Dev nD) : Thr).loc b), ⌜f = X⌝ ∗ (((c : Thr).loc b) ↦{fullShare} f))

/-- What the body starts from. -/
def bodyPre (c : Dev nD) : sProp 𝕄 :=
  iprop(Φ₀ m ρ c ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))

/-- What the body leaves. -/
def bodyPost (c : Dev nD) : sProp 𝕄 :=
  iprop(Φ₁ c ∗ (dats m ρ 0 c).owesAt () t0_0.succ ∗ stg c cc0_stg0_0 (xs m ρ c) ∗ stg c cc0_stg1_0 (is m ρ c) ∗ stg c cc0_stg2_0 (ws m ρ c)
    ∗ stg c cc0_stg3_0 (total m ρ c))

/-- The list of two zeros is zero at every index. -/
theorem zero₂ : (![0, 0] : Fin 2 → ℕ) = fun _ => 0 := funext fun a => by fin_cases a <;> rfl
/-- The list of three zeros is zero at every index. -/
theorem zero₃ : (![0, 0, 0] : Fin 3 → ℕ) = fun _ => 0 := funext fun a => by fin_cases a <;> rfl

omit [FloatOps F] in
/-- A store to the whole mask buffer leaves what was stored. -/
theorem mask_written (f w) : (kM.access (Rect.unit (s := S1024x4) ![0, 0] S1024x4.size inb_S1024x4_S1024x4_0_0)).write (Elt F) f w Finset.univ = w :=
  Memref.write_access_unit_zero_univ (Elt F) cc0_scratch0 zero₂ _ f w

omit [FloatOps F] in
/-- A store to the whole result buffer leaves what was stored. -/
theorem result_written (f w) : (oM.access (Rect.unit (s := S128x1024) ![0, 0] S128x1024.size inb_S128x1024_S128x1024_0_0)).write (Elt F) f w Finset.univ = w :=
  Memref.write_access_unit_zero_univ (Elt F) cc0_stg3_0 zero₂ _ f w

omit [FloatOps F] in
/-- A load of the whole routing buffer gives its contents. -/
theorem route_read (f) : iM.view.readAt (Elt F) (Rect.unit (s := S1024x1) ![0, 0] S1024x1.size inb_S1024x1_S1024x1_0_0).toLoadRect f = f :=
  Memref.readAt_unit_zero (Elt F) cc0_stg1_0 zero₂ _ f

omit [FloatOps F] in
/-- A load of the whole buffer of experts gives its contents. -/
theorem experts_read (f) : wM.view.readAt (Elt F) (Rect.unit (s := S4x512x1024) ![0, 0, 0] S4x512x1024.size inb_S4x512x1024_S4x512x1024_0_0_0).toLoadRect f = f :=
  Memref.readAt_unit_zero (Elt F) cc0_stg2_0 zero₃ _ f

set_option maxHeartbeats 4000000 in
set_option maxRecDepth 8000 in
/-- The kernel, run from `bodyPre`, ends at `bodyPost`. -/
theorem sound_body (c : Dev nD) (Kt : PUnit → sProp 𝕄) :
    iprop(bodyPre m ρ c ∗ (bodyPost m ρ c -∗ Kt ⟨⟩))
      ⊢ wp frame (wpE (defs₀ (F := F)) 𝒱₀ c none) Set.univ
          (cc0_body xM (Memref.isWhole_whole _) iM (Memref.isWhole_whole _) wM (Memref.isWhole_whole _) oM (Memref.isWhole_whole _)
            kM (Memref.isWhole_whole _) aM (Memref.isWhole_whole _) cM (Memref.isWhole_whole _) cc0_scratch3 cc0_scratch4) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel
  simp only [semSignalWord, semWaitWord, Prog.lift, Prog.bind_op, Prog.bind_ret, Prog.pure_eq_ret, wp_deviceId]
  unfold bodyPre Φ₀ start maskAny
  iintro ⟨⟨⟨⟨⟨%K, #HR, Hlin⟩, ⟨HcB, HcV⟩, #Hlev⟩, ⟨%fm, Hm⟩, Hblk, Hslot⟩, Ho, ⟨%d0, %g0, %hg0, Hx⟩, ⟨%d1, %g1, %hg1, Hi⟩, ⟨%d2, %g2, %hg2, Hw⟩, ⟨%d3, %g3, %hg3, Hout⟩⟩, Hk⟩
  have h0 : g0 = xs m ρ c := by rw [hg0]; unfold Dat.before; rw [if_pos (fetch0_0 t0_0)]; rfl
  have h1 : g1 = is m ρ c := by rw [hg1]; unfold Dat.before; rw [if_pos (fetch0_1 t0_0)]; rfl
  have h2 : g2 = ws m ρ c := by rw [hg2]; unfold Dat.before; rw [if_pos (fetch0_2 t0_0)]; rfl
  subst h0 h1 h2
  unfold Dat.owesAt Pipeline.owesWithin
  icases Ho with ⟨%W, %hW, HO⟩
  rw [show (dats m ρ 0 c).owed t0_0.castSucc = O₀ c from rfl]
  ihave Hkits := (sort_kits c) $$ [Hlin HcV Hblk Hslot]
  · isplitl [Hlin]; · iexact Hlin
    isplitl [HcV]; · iexact HcV
    isplitl [Hblk] <;> iassumption
  rw [bigSep_seven, bigSep_seven, bigSep_seven]
  icases Hkits with ⟨HaB, Hown, ⟨A0, A1, A2, A3, A4, A5, A6⟩, ⟨B0, B1, B2, B3, B4, B5, B6⟩, ⟨C0, C1, C2, C3, C4, C5, C6⟩⟩
  -- the seven signals
  iapply (signal_step m ρ K c _ 0 (Fin.ext (k0_dev1_eq c)) (owe (O₁ c) (owesUnit c) [1, 2, 3, 4, 5, 6]) W) $$ [HO A0]
  · isplitr; · iexact HR
    isplitl [HO]; · iexact HO
    iexact A0
  iintro HO
  iapply (signal_step m ρ K c _ 1 (Fin.ext (k0_dev2_eq c)) (owe (O₁ c) (owesUnit c) [2, 3, 4, 5, 6]) W) $$ [HO A1]
  · isplitr; · iexact HR
    isplitl [HO]; · iexact HO
    iexact A1
  iintro HO
  iapply (signal_step m ρ K c _ 2 (Fin.ext (k0_dev3_eq c)) (owe (O₁ c) (owesUnit c) [3, 4, 5, 6]) W) $$ [HO A2]
  · isplitr; · iexact HR
    isplitl [HO]; · iexact HO
    iexact A2
  iintro HO
  iapply (signal_step m ρ K c _ 3 (Fin.ext (k0_dev4_eq c)) (owe (O₁ c) (owesUnit c) [4, 5, 6]) W) $$ [HO A3]
  · isplitr; · iexact HR
    isplitl [HO]; · iexact HO
    iexact A3
  iintro HO
  iapply (signal_step m ρ K c _ 4 (Fin.ext (k0_dev5_eq c)) (owe (O₁ c) (owesUnit c) [5, 6]) W) $$ [HO A4]
  · isplitr; · iexact HR
    isplitl [HO]; · iexact HO
    iexact A4
  iintro HO
  iapply (signal_step m ρ K c _ 5 (Fin.ext (k0_dev6_eq c)) (owe (O₁ c) (owesUnit c) [6]) W) $$ [HO A5]
  · isplitr; · iexact HR
    isplitl [HO]; · iexact HO
    iexact A5
  iintro HO
  iapply (signal_step m ρ K c _ 6 (Fin.ext (k0_dev7_eq c)) (owe (O₁ c) (owesUnit c) []) W) $$ [HO A6]
  · isplitr; · iexact HR
    isplitl [HO]; · iexact HO
    iexact A6
  iintro HO
  -- the wait for the others' signals
  iapply (barrier_step m ρ K c W) $$ [HcB HO HaB]
  · isplitr; · iexact HR
    isplitr; · iexact Hlev
    isplitl [HcB]; · iexact HcB
    isplitl [HO]; · iexact HO
    iexact HaB
  iintro %W ⟨HO, HzB, Hslots⟩
  ihave Hslots := (Entails.of_eq (bigSep_seven fun k => slotAny (F := F) (hop c k) k)) $$ Hslots
  icases Hslots with ⟨D0, D1, D2, D3, D4, D5, D6⟩
  -- the keep mask
  iapply (wp_load 𝒱₀ (c : Thr) none Set.univ (m := iM) (Finset.subset_univ _)) $$ Hi; iintro Hi
  iapply (wp_load 𝒱₀ (c : Thr) none Set.univ (m := kM) (Finset.subset_univ _)) $$ Hm; iintro Hm
  iapply (wp_store 𝒱₀ (c : Thr) none Set.univ (m := kM) (r := Rect.unit (s := S1024x4) ![0, 0] S1024x4.size inb_S1024x4_S1024x4_0_0) (Mk := Finset.univ) (Finset.subset_univ _)) $$ Hm; iintro Hm
  rw [mask_written, route_read]
  iapply (wp_load 𝒱₀ (c : Thr) none Set.univ (m := wM) (Finset.subset_univ _)) $$ Hw; iintro Hw
  rw [experts_read]
  ihave Hx := (show iprop((c : Thr).loc cc0_stg0_0 ↦{fullShare} xs m ρ c) ⊢ tokensAt m ρ c from BI.Entails.refl _) $$ Hx
  ihave Hm := (show iprop((kM.access (Rect.unit (s := S1024x4) ![0, 0] S1024x4.size inb_S1024x4_S1024x4_0_0)).loc (c : Thr) ↦{fullShare}
      (k0_pay2 (Scalar.remsi (Scalar.divsi (Dev.word c) 1#32) 8#32) (is m ρ c) : FVec F S1024x4 .f32)) ⊢ maskAt m ρ c from BI.Entails.refl _) $$ Hm
  -- the seven blocks for the others
  iapply (send_step m ρ K c _ 0 (Fin.ext (k0_dev8_eq c)) (k0_off1_eq c 0) (k0_off2_eq c 0) (k0_off3_eq c 0) (k0_off3_eq c 0) (k0_off4_eq c 0)
      _ rfl _ _ rfl rfl (fun x k => k0_pay4 (k0_pay3 (ws m ρ c)) x k) rfl (owe 0 (owesCopy c) [1, 2, 3, 4, 5, 6]) W) $$ [Hx Hm HO B0 D0]
  · isplitr; · iexact HR
    isplitl [Hx]; · iexact Hx
    isplitl [Hm]; · iexact Hm
    isplitl [HO]; · iexact HO
    isplitl [B0]; · iexact B0
    iexact D0
  iintro ⟨Hx, Hm, E0, HO⟩
  iapply (send_step m ρ K c _ 1 (Fin.ext (k0_dev9_eq c)) (k0_off1_eq c 1) (k0_off2_eq c 1) (k0_off3_eq c 1) (k0_off3_eq c 1) (k0_off4_eq c 1)
      _ rfl _ _ rfl rfl (fun x k => k0_pay9 (k0_pay3 (ws m ρ c)) (k0_pay5 x) k (k0_pay6 (k0_pay3 (ws m ρ c)) x k) (k0_pay7 x k) (k0_pay8 (k0_pay3 (ws m ρ c))) (constant S128x1024 .f32 0x00000000#32)) rfl (owe 0 (owesCopy c) [2, 3, 4, 5, 6]) W) $$ [Hx Hm HO B1 D1]
  · isplitr; · iexact HR
    isplitl [Hx]; · iexact Hx
    isplitl [Hm]; · iexact Hm
    isplitl [HO]; · iexact HO
    isplitl [B1]; · iexact B1
    iexact D1
  iintro ⟨Hx, Hm, E1, HO⟩
  iapply (send_step m ρ K c _ 2 (Fin.ext (k0_dev10_eq c)) (k0_off1_eq c 2) (k0_off2_eq c 2) (k0_off3_eq c 2) (k0_off3_eq c 2) (k0_off4_eq c 2)
      _ rfl _ _ rfl rfl (fun x k => k0_pay14 (k0_pay3 (ws m ρ c)) (k0_pay10 x) k k0_pay11 (k0_pay12 x k) (k0_pay13 (k0_pay3 (ws m ρ c))) (constant S128x1024 .f32 0x00000000#32)) rfl (owe 0 (owesCopy c) [3, 4, 5, 6]) W) $$ [Hx Hm HO B2 D2]
  · isplitr; · iexact HR
    isplitl [Hx]; · iexact Hx
    isplitl [Hm]; · iexact Hm
    isplitl [HO]; · iexact HO
    isplitl [B2]; · iexact B2
    iexact D2
  iintro ⟨Hx, Hm, E2, HO⟩
  iapply (send_step m ρ K c _ 3 (Fin.ext (k0_dev11_eq c)) (k0_off1_eq c 3) (k0_off2_eq c 3) (k0_off3_eq c 3) (k0_off3_eq c 3) (k0_off4_eq c 3)
      _ rfl _ _ rfl rfl (fun x k => k0_pay15 (k0_pay3 (ws m ρ c)) x k) rfl (owe 0 (owesCopy c) [4, 5, 6]) W) $$ [Hx Hm HO B3 D3]
  · isplitr; · iexact HR
    isplitl [Hx]; · iexact Hx
    isplitl [Hm]; · iexact Hm
    isplitl [HO]; · iexact HO
    isplitl [B3]; · iexact B3
    iexact D3
  iintro ⟨Hx, Hm, E3, HO⟩
  iapply (send_step m ρ K c _ 4 (Fin.ext (k0_dev12_eq c)) (k0_off1_eq c 4) (k0_off2_eq c 4) (k0_off3_eq c 4) (k0_off3_eq c 4) (k0_off4_eq c 4)
      _ rfl _ _ rfl rfl (fun x k => k0_pay20 (k0_pay3 (ws m ρ c)) (k0_pay16 x) k (k0_pay17 (k0_pay3 (ws m ρ c)) x k) (k0_pay18 x k) (k0_pay19 (k0_pay3 (ws m ρ c))) (constant S128x1024 .f32 0x00000000#32)) rfl (owe 0 (owesCopy c) [5, 6]) W) $$ [Hx Hm HO B4 D4]
  · isplitr; · iexact HR
    isplitl [Hx]; · iexact Hx
    isplitl [Hm]; · iexact Hm
    isplitl [HO]; · iexact HO
    isplitl [B4]; · iexact B4
    iexact D4
  iintro ⟨Hx, Hm, E4, HO⟩
  iapply (send_step m ρ K c _ 5 (Fin.ext (k0_dev13_eq c)) (k0_off1_eq c 5) (k0_off2_eq c 5) (k0_off3_eq c 5) (k0_off3_eq c 5) (k0_off4_eq c 5)
      _ rfl _ _ rfl rfl (fun x k => k0_pay25 (k0_pay3 (ws m ρ c)) (k0_pay21 x) k k0_pay22 (k0_pay23 x k) (k0_pay24 (k0_pay3 (ws m ρ c))) (constant S128x1024 .f32 0x00000000#32)) rfl (owe 0 (owesCopy c) [6]) W) $$ [Hx Hm HO B5 D5]
  · isplitr; · iexact HR
    isplitl [Hx]; · iexact Hx
    isplitl [Hm]; · iexact Hm
    isplitl [HO]; · iexact HO
    isplitl [B5]; · iexact B5
    iexact D5
  iintro ⟨Hx, Hm, E5, HO⟩
  iapply (send_step m ρ K c _ 6 (Fin.ext (k0_dev14_eq c)) (k0_off1_eq c 6) (k0_off2_eq c 6) (k0_off3_eq c 6) (k0_off3_eq c 6) (k0_off4_eq c 6)
      _ rfl _ _ rfl rfl (fun x k => k0_pay26 (k0_pay3 (ws m ρ c)) x k) rfl (owe 0 (owesCopy c) []) W) $$ [Hx Hm HO B6 D6]
  · isplitr; · iexact HR
    isplitl [Hx]; · iexact Hx
    isplitl [Hm]; · iexact Hm
    isplitl [HO]; · iexact HO
    isplitl [B6]; · iexact B6
    iexact D6
  iintro ⟨Hx, Hm, E6, HO⟩
  -- the device's own block
  iapply (block_step m ρ c c (k0_off5_eq c) (k0_off6_eq c) (k0_off7_eq c) (k0_off7_eq c) (fun x k => k0_pay31 (k0_pay3 (ws m ρ c)) (k0_pay28 (k0_pay3 (ws m ρ c)) x k) (k0_pay29 k) (k0_pay30 x)) rfl) $$ [Hx Hm Hown]
  · isplitl [Hx]; · iexact Hx
    isplitl [Hm] <;> iassumption
  iintro ⟨Hx, Hm, Hown⟩
  iapply (read_block c c (k0_off7_eq c)) $$ Hown
  iintro Hown
  -- the ends of the seven copies
  iapply (finish_step m ρ K c 0 _ _ rfl rfl _ rfl rfl W) $$ [HO E0 C0]
  · isplitr; · iexact HR
    isplitl [HO]; · iexact HO
    isplitl [E0]; · iexact E0
    iexact C0
  iintro %W0 %v0 %e0 ⟨HO, C0⟩
  iapply (finish_step m ρ K c 1 _ _ rfl rfl _ rfl rfl W0) $$ [HO E1 C1]
  · isplitr; · iexact HR
    isplitl [HO]; · iexact HO
    isplitl [E1]; · iexact E1
    iexact C1
  iintro %W1 %v1 %e1 ⟨HO, C1⟩
  iapply (finish_step m ρ K c 2 _ _ rfl rfl _ rfl rfl W1) $$ [HO E2 C2]
  · isplitr; · iexact HR
    isplitl [HO]; · iexact HO
    isplitl [E2]; · iexact E2
    iexact C2
  iintro %W2 %v2 %e2 ⟨HO, C2⟩
  iapply (finish_step m ρ K c 3 _ _ rfl rfl _ rfl rfl W2) $$ [HO E3 C3]
  · isplitr; · iexact HR
    isplitl [HO]; · iexact HO
    isplitl [E3]; · iexact E3
    iexact C3
  iintro %W3 %v3 %e3 ⟨HO, C3⟩
  iapply (finish_step m ρ K c 4 _ _ rfl rfl _ rfl rfl W3) $$ [HO E4 C4]
  · isplitr; · iexact HR
    isplitl [HO]; · iexact HO
    isplitl [E4]; · iexact E4
    iexact C4
  iintro %W4 %v4 %e4 ⟨HO, C4⟩
  iapply (finish_step m ρ K c 5 _ _ rfl rfl _ rfl rfl W4) $$ [HO E5 C5]
  · isplitr; · iexact HR
    isplitl [HO]; · iexact HO
    isplitl [E5]; · iexact E5
    iexact C5
  iintro %W5 %v5 %e5 ⟨HO, C5⟩
  iapply (finish_step m ρ K c 6 _ _ rfl rfl _ rfl rfl W5) $$ [HO E6 C6]
  · isplitr; · iexact HR
    isplitl [HO]; · iexact HO
    isplitl [E6]; · iexact E6
    iexact C6
  iintro %W6 %v6 %e6 ⟨HO, C6⟩
  -- the result
  iapply (wp_load 𝒱₀ (c : Thr) none Set.univ (m := oM) (Finset.subset_univ _)) $$ Hout; iintro Hout
  iapply (wp_store 𝒱₀ (c : Thr) none Set.univ (m := oM) (r := Rect.unit (s := S128x1024) ![0, 0] S128x1024.size inb_S128x1024_S128x1024_0_0) (Mk := Finset.univ) (Finset.subset_univ _)) $$ Hout; iintro Hout
  rw [result_written, wp_ret]; imodintro
  iapply Hk
  unfold bodyPost Dat.owesAt Pipeline.owesWithin
  rw [show (dats m ρ 0 c).owed t0_0.succ = 0 from rfl]
  isplitl [Hm HzB Hown C0 C1 C2 C3 C4 C5 C6]
  · iapply (gather_kits c)
    isplitl [Hm]; · unfold maskAny maskAt; iexists (keeps m ρ c); iexact Hm
    isplitl [HzB]; · iexact HzB
    isplitl [Hown]; · iexact Hown
    rw [bigSep_seven]
    isplitl [C0]; · iexact C0
    isplitl [C1]; · iexact C1
    isplitl [C2]; · iexact C2
    isplitl [C3]; · iexact C3
    isplitl [C4]; · iexact C4
    isplitl [C5]; · iexact C5
    iexact C6
  isplitl [HO]
  · iexists W6
    isplitr; · ipureintro; exact fun _ _ => Or.inl trivial
    iexact HO
  unfold tokensAt
  isplitl [Hx]
  · iexists _; isplitr; · (ipureintro; rfl)
    iexact Hx
  isplitl [Hi]
  · iexists _; isplitr; · (ipureintro; rfl)
    iexact Hi
  isplitl [Hw]
  · iexists _; isplitr; · (ipureintro; rfl)
    iexact Hw
  iexists _; isplitr
  · ipureintro
    show addBlock (addBlock (addBlock (addBlock (addBlock (addBlock (addBlock (extf .f32 (part m ρ c c) bitsLt_bf16_f32)
      (shapeCast S128x1024 v0 shapeCasts_S1x128x1024_S128x1024)) (shapeCast S128x1024 v1 shapeCasts_S1x128x1024_S128x1024))
      (shapeCast S128x1024 v2 shapeCasts_S1x128x1024_S128x1024)) (shapeCast S128x1024 v3 shapeCasts_S1x128x1024_S128x1024))
      (shapeCast S128x1024 v4 shapeCasts_S1x128x1024_S128x1024)) (shapeCast S128x1024 v5 shapeCasts_S1x128x1024_S128x1024))
      (shapeCast S128x1024 v6 shapeCasts_S1x128x1024_S128x1024) = total m ρ c
    rw [e0, e1, e2, e3, e4, e5, e6]; rfl
  iexact Hout

omit [FloatOps F] in
/-- The four windows, one by one. -/
theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

set_option maxRecDepth 4000 in
/-- The staging pipeline's obligation: its one step is the run above. -/
theorem body_obligation (c : Dev nD) : BodyObligation (dats (F := F) m ρ 0 c) (defs₀ (F := F)) 𝒱₀ () Set.univ := fun t => by
  rw [fin_N0 t]
  rw [bigSep_W, bigSep_W]
  simp only [owns_whole_eq]
  show bodyPre m ρ c ⊢ wp frame (wpE (defs₀ (F := F)) 𝒱₀ c none) Set.univ
    (cc0_body xM (Memref.isWhole_whole _) iM (Memref.isWhole_whole _) wM (Memref.isWhole_whole _) oM (Memref.isWhole_whole _)
      kM (Memref.isWhole_whole _) aM (Memref.isWhole_whole _) cM (Memref.isWhole_whole _) cc0_scratch3 cc0_scratch4) (fun _ => bodyPost m ρ c)
  iintro H
  iapply (sound_body m ρ c fun _ => bodyPost m ρ c)
  isplitl [H]; · iexact H
  iintro H; iexact H

end Cert.Moe

end
-- ==== Proof.Moe.Launch.lean ====
/-
# The launch

The schedule's counters and tokens are dealt at the start, each token to the device that pays with it; the staging
pipeline then runs the kernel on every device. `run_main` states what the whole run leaves.
-/
module

public import proofs.«01_k».proof.Proof.Moe.Body
public import Idealize.ShloMosaic.Lib.Pipeline.CollectiveSegs

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The kernel's own semaphores: seven for the sends, seven for the receives. -/
abbrev osem : Bool × Fin 7 → SemLoc sig := fun d => ctr (some d)

/-- The fourteen semaphores of the copies are the kernel's own, each named once. -/
theorem ownSemFacts : Pipeline.OwnSemFacts cfg0.spec osem := by decide

/-- Every window's array is held whole. -/
theorem share_eq (c : Dev nD) (w : Fin cfg0.W) : (dats m ρ 0 c).share w = fullShare := by unfold Dat.share; split <;> rfl

/-! ## Counters and tokens -/

omit [FloatOps F] in
/-- Fifteen counters on eight devices are distinct. -/
theorem cellAt_injective : Function.Injective (cellAt : Dev nD × Ctr → GSem nD τ sig) := fun ⟨c, q⟩ ⟨c', q'⟩ h => by
  have h1 : c = c' := congrArg (fun g : GSem nD τ sig => g.1.1) h
  have h2 : q = q' := ctr_injective (congrArg Prod.snd h)
  rw [h1, h2]

/-- All the counters of the exchange. -/
def exchCells : Finset (GSem nD τ sig) := Finset.univ.map ⟨cellAt, cellAt_injective⟩

/-- The three duties that bear the number `k` on one device: one of its barrier's seven, its send's and its receive's. -/
def tokKey : Fin 7 × Fin 3 → Ctr × Fin 7
  | (k, 0) => (none, k)
  | (k, 1) => (some (false, k), 0)
  | (k, 2) => (some (true, k), 0)

/-- The 21 duties of one device are distinct. -/
theorem tokKey_injective : Function.Injective tokKey := by decide

/-- The counter, the round and the number of a duty. -/
def tokOf (x : Dev nD × (Fin 7 × Fin 3)) : GSem nD τ sig × ℕ × Fin 7 := (cellAt (x.1, (tokKey x.2).1), 0, (tokKey x.2).2)

/-- The duties of all the devices are distinct. -/
theorem tokOf_injective : Function.Injective tokOf := fun ⟨c, p⟩ ⟨c', p'⟩ h => by
  have h1 := cellAt_injective (congrArg Prod.fst h)
  have h2 : tokKey p = tokKey p' := Prod.ext (congrArg Prod.snd h1) (congrArg (fun x : GSem nD τ sig × ℕ × Fin 7 => x.2.2) h)
  rw [tokKey_injective h2, show c = c' from congrArg Prod.fst h1]

/-- All the duties of the exchange. -/
def exchToks : Finset (GSem nD τ sig × ℕ × Fin 7) := Finset.univ.map ⟨tokOf, tokOf_injective⟩

/-- The bookkeeping at launch: the staging pipeline's and the exchange's. -/
def u₀ : UU := (initOf (Pipeline.cells cfgs cellOf_inj) (Pipeline.launchToks cfgs cellOf_inj), initOf exchCells exchToks)

/-- The tokens of the duties that bear the number `k` on device `c`. -/
def tok (c : Dev nD) (k : Fin 7) : sProp 𝕄 :=
  iprop(dutyTok EX (barCell c) 0 k ∗ dutyTok EX (sendCell c k) 0 0 ∗ dutyTok EX (recvCell c k) 0 0)

/-- What the start deals device `c`: its counters' rounds, positions and tokens. -/
def G (c : Dev nD) : sProp 𝕄 :=
  iprop((bigSep Finset.univ fun q : Ctr => roundState EX (exch m ρ) (cellAt (c, q)) 0)
    ∗ (bigSep Finset.univ fun q : Ctr => iprop(atPos EX (cellAt (c, q)) 0 ∅ 0 ∗ reached EX (cellAt (c, q)) 0)) ∗ bigSep Finset.univ (tok (F := F) c))

/-- What it has when the counters are shared and the tokens passed on. -/
def G' (c : Dev nD) : sProp 𝕄 := iprop(∃ K, records m ρ K ∗ linear c)

omit [FloatOps F] in
/-- The three tokens of the number `k` on device `c`, one by one. -/
theorem tok_three (c : Dev nD) (k : Fin 7) :
    (bigSep Finset.univ fun s : Fin 3 => (dutyTok EX (tokOf (c, (k, s))).1 (tokOf (c, (k, s))).2.1 (tokOf (c, (k, s))).2.2 : sProp 𝕄)) = tok c k := by
  rw [bigSep_univ_eq_bigSepL [0, 1, 2] (by decide) (by decide)]; rfl

/-- The exchange's bookkeeping at launch gives every device its rounds, positions and tokens. -/
theorem fund_exch : BI.own (EX (initOf exchCells exchToks)) ⊢ (|==> bigSep Finset.univ (G m ρ) : sProp 𝕄) := by
  have hX (Φ : GSem nD τ sig → sProp 𝕄) : bigSep exchCells Φ = bigSep Finset.univ fun c : Dev nD => bigSep Finset.univ fun q : Ctr => Φ (cellAt (c, q)) := by
    unfold exchCells; rw [bigSep_map, bigSep_univ_prod]; rfl
  have hT : bigSep exchToks (fun x => (dutyTok EX x.1 x.2.1 x.2.2 : sProp 𝕄)) = bigSep Finset.univ fun c : Dev nD => bigSep Finset.univ (tok (F := F) c) := by
    unfold exchToks; rw [bigSep_map, bigSep_univ_prod]
    exact bigSep_congr fun c _ => by rw [bigSep_univ_prod]; exact bigSep_congr fun k _ => tok_three c k
  iintro HX
  imod (Rounds.fund EX (exch m ρ) exchCells exchToks) $$ HX with ⟨Hst, Hr, Hat, Htok⟩
  imodintro
  ihave Hst' := (Entails.of_eq (hX fun g => roundState EX (exch m ρ) g 0)) $$ Hst
  ihave Hat' := (Entails.of_eq (hX fun g => atPos EX g 0 ∅ 0)) $$ Hat
  ihave Hr' := (Entails.of_eq (hX fun g => reached EX g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The fifteen counters are the barrier's and the fourteen of the copies. -/
theorem bigSep_own (Φ : Ctr → sProp 𝕄) : bigSep Finset.univ Φ = iprop(Φ none ∗ bigSep Finset.univ fun d => Φ (some d)) := by
  have h : (Finset.univ.erase (none : Ctr)) = Finset.univ.map Function.Embedding.some := by decide
  rw [bigSep_univ_at Φ none, h, bigSep_map]; rfl

omit [FloatOps F] in
/-- The barrier's semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The kernel's own semaphores and the barrier's are the fifteen counters. -/
theorem sems0_eq (c : Dev nD) : iprop(Pipeline.ownSems0 (Ix := Unit) (Name := ℕ) (U := UU) (Lvl := ℕ) (Val := Elt F) (τ := τ) osem c ∗ unscopedSems0 c)
    = iprop((bigSep Finset.univ fun d => semVal (cellAt (c, some d)) 0) ∗ semVal (cellAt (c, none)) 0 : sProp 𝕄) := by
  rw [unscopedSems0_eq]; rfl

/-- One device shares its fifteen counters, all at zero, and keeps its positions and tokens. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun q => iprop(∃ κ : ℕ, cellInv EX (exch m ρ) κ (cellAt (c, q))))
          ∗ (bigSep Finset.univ fun q => iprop(atPos EX (cellAt (c, q)) 0 ∅ 0 ∗ reached EX (cellAt (c, q)) 0)) ∗ bigSep Finset.univ (tok (F := F) c)) := by
  unfold G
  have hs : iprop(Pipeline.ownSems0 (Ix := Unit) (Name := ℕ) (U := UU) (Lvl := ℕ) (Val := Elt F) (τ := τ) osem c ∗ unscopedSems0 c) ⊢ (bigSep Finset.univ fun q : Ctr => semVal (cellAt (c, q)) 0 : sProp 𝕄) := by
    rw [sems0_eq, bigSep_own]; iintro ⟨H, H'⟩; isplitl [H'] <;> iassumption
  iintro ⟨Hos, Hus, Hst, Hat, Htok⟩
  ihave Hv := hs $$ [Hos Hus]
  · isplitl [Hos] <;> iassumption
  imod (show iprop((bigSep Finset.univ fun q : Ctr => semVal (cellAt (c, q)) 0) ∗ bigSep Finset.univ fun q : Ctr => roundState EX (exch m ρ) (cellAt (c, q)) 0)
      ⊢ (|={Set.univ}=> bigSep Finset.univ fun q => iprop(∃ κ : ℕ, cellInv EX (exch m ρ) κ (cellAt (c, q))) : sProp 𝕄) from by
        rw [← bigSep_sep']
        exact (bigSep_mono fun q _ => (Rounds.body_intro EX (exch m ρ) (cellAt (c, q))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- The tokens passed on: the one of a device's barrier to the device that signals it, the one of a receive to the device
    that sends it. -/
theorem toks_around : (bigSep Finset.univ fun c : Dev nD => bigSep Finset.univ (tok (F := F) c))
    = bigSep Finset.univ fun c : Dev nD => bigSep Finset.univ (payTok (F := F) c) := by
  unfold tok payTok
  have hB : (bigSep Finset.univ fun c : Dev nD => bigSep Finset.univ fun k : Fin 7 => (dutyTok EX (barCell c) 0 k : sProp 𝕄))
      = bigSep Finset.univ fun c : Dev nD => bigSep Finset.univ fun k : Fin 7 => dutyTok EX (barCell (hop c k)) 0 k.rev := by
    rw [BI.bigSep_univ_comm, BI.bigSep_univ_comm (fun (c : Dev nD) (k : Fin 7) => (dutyTok EX (barCell (hop c k)) 0 k.rev : sProp 𝕄)), bigSep_univ_equiv Fin.revPerm]
    exact bigSep_congr fun k _ => bigSep_univ_equiv (turn k) fun c : Dev nD => (dutyTok EX (barCell c) 0 k.rev : sProp 𝕄)
  have hV : (bigSep Finset.univ fun c : Dev nD => bigSep Finset.univ fun k : Fin 7 => (dutyTok EX (recvCell c k) 0 0 : sProp 𝕄))
      = bigSep Finset.univ fun c : Dev nD => bigSep Finset.univ fun k : Fin 7 => dutyTok EX (recvCell (hop c k) k) 0 0 := by
    rw [BI.bigSep_univ_comm, BI.bigSep_univ_comm (fun (c : Dev nD) (k : Fin 7) => (dutyTok EX (recvCell (hop c k) k) 0 0 : sProp 𝕄))]
    exact bigSep_congr fun k _ => bigSep_univ_equiv (turn k) fun c : Dev nD => (dutyTok EX (recvCell c k) 0 0 : sProp 𝕄)
  simp only [bigSep_sep']
  rw [hB, hV]

/-- The shared counters and what device `c` alone holds, under some choice of names. -/
theorem start_of_records (K : Dev nD × Ctr → ℕ) (c : Dev nD) : iprop(records m ρ K ∗ linear c) ⊢ G' m ρ c := by
  unfold G'; iintro H; iexists K; iexact H

/-- What the devices hold together, dealt anew: each gets the tokens that it pays with. -/
theorem regroup :
    (bigSep Finset.univ fun c : Dev nD => iprop((bigSep Finset.univ fun q => iprop(∃ κ : ℕ, cellInv EX (exch m ρ) κ (cellAt (c, q))))
          ∗ (bigSep Finset.univ fun q => iprop(atPos EX (cellAt (c, q)) 0 ∅ 0 ∗ reached EX (cellAt (c, q)) 0)) ∗ bigSep Finset.univ (tok (F := F) c)) : sProp 𝕄)
      ⊢ bigSep Finset.univ (G' m ρ) := by
  rw [bigSep_sep', bigSep_sep', ← bigSep_univ_prod (fun ck : Dev nD × Ctr => iprop(∃ κ : ℕ, cellInv EX (exch m ρ) κ (cellAt ck))),
    bigSep_congr (s := Finset.univ) (fun (c : Dev nD) _ => bigSep_sep' Finset.univ (fun q : Ctr => (atPos EX (cellAt (c, q)) 0 ∅ 0 : sProp 𝕄)) (fun q => reached EX (cellAt (c, q)) 0)),
    bigSep_sep', ← bigSep_univ_prod (fun ck : Dev nD × Ctr => (reached EX (cellAt ck) 0 : sProp 𝕄)), toks_around]
  iintro ⟨HI, ⟨Hat, #HR⟩, Htok⟩
  ihave HK := (BI.bigSep_exists_pi Finset.univ (fun (ck : Dev nD × Ctr) (κ : ℕ) => (cellInv EX (exch m ρ) κ (cellAt ck) : sProp 𝕄))) $$ HI
  icases HK with ⟨%K, #HI⟩
  iapply (bigSep_with_persistent (R := records m ρ K) fun c _ => start_of_records m ρ K c)
  isplitr
  · unfold records; isplitl; · iexact HI
    iexact HR
  · unfold linear
    rw [bigSep_sep']
    isplitl [Hat]; · iexact Hat
    iexact Htok

/-- From the counters at zero and the tokens to what every device starts with. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## What goes in and what comes out -/

/-- The argument that the kernel does not read, held whole at its launch contents. -/
def unread (c : Dev nD) : sProp 𝕄 := iprop(((c : Thread nD τ).loc main_arg1) ↦{fullShare} m ((c : Thread nD τ).loc main_arg1))

/-- What the launch leaves to device `c` is what its body starts from, and the argument that is not read. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ unread m c) := by
  rw [Pipeline.unscopedRestP_none, show cfg0.spec = spec0 from rfl, unscopedRest0_eq]
  iintro ⟨Hun, Hlev, Hcr, -, HG⟩
  ihave Hc := (creds (F := F) c) $$ Hcr
  imodintro
  unfold start G'
  isplitr [Hun]
  · isplitl [HG]; · iexact HG
    isplitl [Hc] <;> iassumption
  · unfold unread; iexact Hun

/-- Together with the scratch buffers it is the state before the kernel's one step. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, show cfg0.spec = spec0 from rfl, scopedRest0_eq]
  unfold Φ₀ maskAny
  iintro ⟨Hs, -, Hm, Ha, Hc⟩
  isplitl [Hs]; · iexact Hs
  isplitl [Hm]; · iexact Hm
  isplitl [Ha]; · iapply (acc_split (F := F) c); iexact Ha
  iapply (comm_split (F := F) c); iexact Hc

/-- The state after that step gives back the counters at zero and the scratch buffers. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, show cfg0.spec = spec0 from rfl, scopedRest0_eq, unscopedSems0_eq]
  unfold Φ₁ maskAny Pipeline.ownSems0
  rw [bigSep_own]
  iintro ⟨Hm, Ha, Hc, Hz, Hzs⟩
  isplitl [Hz]; · iexact Hz
  isplitl [Hzs]; · iexact Hzs
  isplitl [Hm]; · iexact Hm
  isplitl [Ha]; · iapply (acc_join (F := F) c (m ((c : Thread nD τ).loc cc0_scratch1))); iexact Ha
  iapply (comm_join (F := F) c (m ((c : Thread nD τ).loc cc0_scratch2))); iexact Hc

/-- The staging pipeline may make all its waits. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What device `c`'s array of window `w` holds after the run. -/
def finalA (c : Dev nD) (w : Fin cfg0.W) : Buf (Elt F) ((cfg0.win w).arr.view.loc (c : Thread nD τ)) := (dats m ρ 0 c).arrAt w cfg0.N

/-- Every array holds its final contents, and the argument that is not read holds what it held. -/
def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)

/-- At the end the barrier counters are at zero, and the argument that is not read is what it was. -/
theorem read_end (c : Dev nD) (s' : Phys nD τ sig (Elt F)) :
    iprop(unscopedSems0 c ∗ unread m c ∗ SI s')
      ⊢ |={Set.univ}=> iprop(⌜(∀ sm : SemLoc sig, sm.isScoped .tc = false → s'.mem.sem ((c.tc : Thread nD τ), sm) = 0)
          ∧ s'.mem.mem ((c : Thread nD τ).loc main_arg1) = m ((c : Thread nD τ).loc main_arg1)⌝ ∗ (SI s' : sProp 𝕄)) := by
  unfold unread
  iintro ⟨Hu, Hm, HSI⟩
  icombine HSI Hm gives %h
  imod (Pipeline.unscopedSems0_read (X := unscopedSems0 c) (c := c) fupd_intro s') $$ [Hu HSI] with ⟨%h', HSI⟩
  · isplitl [Hu] <;> iassumption
  imodintro
  isplitr
  · ipureintro; exact ⟨h', funext fun i => h i (Finset.mem_univ _)⟩
  iexact HSI

set_option maxRecDepth 8000 in
/-- For any float values, from any memory with every counter at zero: every fair execution on the eight devices ends, with each
    device's arrays at the computed contents, the unread argument unchanged and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_exch m ρ) $$ HX with HG
      imodintro
      isplitl [HP] <;> iassumption)
    (hglob := glob m ρ)
    (hA := fun _ _ => rfl) (hpf := fun _ k => k.elim0)
    (X := start m ρ) (Y := fun c => unscopedSems0 c) (Z := unread m)
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = m ((c : Thread nD τ).loc main_arg1))
    (hY := read_end m)
    (hQ := fun _ h hs => ⟨fun c => ⟨(h c).1, (h c).2.2.2⟩, sem_eq_zero hs fun c => (h c).2.2.1⟩)

end Cert.Moe

end
-- ==== Proof.Moe.Ends.lean ====
/-
# What the run leaves

Every array after the run: the arguments as they were, the result the sum of eight partial blocks. From that, the two
statements that the program runs, leaves its arguments unchanged and ends with every counter at zero.
-/
module

public import proofs.«01_k».proof.Defs
public import proofs.«01_k».proof.Proof.Moe.Launch
public import proofs.«01_k».proof.Proof.Gen.Kernel

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section
variable (m : (ℓ : Loc nD τ sig) → Buf (Elt F) ℓ) (ρ : Dev nD → PrngReg)

/-! ## The staging buffers hold the arguments -/

/-- The tokens that a device stages are its first argument. -/
theorem xs_eq (c : Dev nD) : xs m ρ c = m ((c : Thread nD τ).loc main_arg0) := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) _

/-- The choices that a device stages are its third argument. -/
theorem is_eq (c : Dev nD) : is m ρ c = m ((c : Thread nD τ).loc main_arg2) := by
  have hz : (fun a => (win0_1.index (0 : Fin 1)) a * main_arg2.ty.shape.size a) = fun _ => 0 := funext fun a => by fin_cases a <;> decide
  exact Memref.read_access_unit_zero (Elt F) main_arg2 hz (fun a => by fin_cases a <;> decide) _

/-- The experts that a device stages are its fourth argument. -/
theorem ws_eq (c : Dev nD) : ws m ρ c = m ((c : Thread nD τ).loc main_arg3) := by
  have hz : (fun a => (win0_2.index (0 : Fin 1)) a * main_arg3.ty.shape.size a) = fun _ => 0 := funext fun a => by fin_cases a <;> decide
  exact Memref.read_access_unit_zero (Elt F) main_arg3 hz (fun a => by fin_cases a <;> decide) _

/-! ## The arrays after the run -/

/-- The result array ends at the sum of the eight partial blocks. -/
theorem finalA_result (c : Dev nD) : finalA m ρ c (3 : Fin 4) = total m ρ c := by
  have hz : (fun a => (win0_3.index (0 : Fin 1)) a * main_v1.ty.shape.size a) = fun _ => 0 := funext fun a => by fin_cases a <;> decide
  have hr := fun f => Memref.read_access_unit_zero (Elt F) main_v1 hz (fun a => by fin_cases a <;> decide) f
  have h : (win0_3.blk (0 : Fin 1)).view.read (Elt F) (finalA m ρ c (3 : Fin 4)) = total m ρ c := by
    unfold finalA
    rw [show cfg0.N = ((0 : Fin 1) : Fin cfg0.N).val + 1 from rfl, (dats m ρ 0 c).arrAt_succ (3 : Fin 4) (0 : Fin 1), if_pos (flush0_3 (0 : Fin 1))]
    exact View.read_write_univ _ _
  exact (hr _).symm.trans h

/-- The tokens are what they were after the run. -/
theorem finalA_x (c : Dev nD) : finalA m ρ c (0 : Fin 4) = m ((c : Thread nD τ).loc main_arg0) := (dats (F := F) m ρ 0 c).arrAt_in (0 : Fin 4) rfl _
/-- The choices are what they were after the run. -/
theorem finalA_idx (c : Dev nD) : finalA m ρ c (1 : Fin 4) = m ((c : Thread nD τ).loc main_arg2) := (dats (F := F) m ρ 0 c).arrAt_in (1 : Fin 4) rfl _
/-- The experts are what they were after the run. -/
theorem finalA_w (c : Dev nD) : finalA m ρ c (2 : Fin 4) = m ((c : Thread nD τ).loc main_arg3) := (dats (F := F) m ρ 0 c).arrAt_in (2 : Fin 4) rfl _

/-- The arguments of device `c` are unchanged. -/
def Kept (r : PUnit × MemSt nD τ sig (Elt F)) (c : Dev nD) : Prop :=
  r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)

/-- After the run every argument is what it was. -/
theorem kept_of_QC {r : PUnit × MemSt nD τ sig (Elt F)} (h : QC m ρ r) (c : Dev nD) : Kept m r c :=
  ⟨((h c).1 (0 : Fin 4)).trans (finalA_x m ρ c), (h c).2, ((h c).1 (1 : Fin 4)).trans (finalA_idx m ρ c), ((h c).1 (2 : Fin 4)).trans (finalA_w m ρ c)⟩

/-- After the run device `c`'s result is the sum of the eight parts of its block. -/
theorem result_of_QC {r : PUnit × MemSt nD τ sig (Elt F)} (h : QC m ρ r) (c : Dev nD) : r.2.mem ((c : Thread nD τ).loc main_v1) = total m ρ c :=
  ((h c).1 (3 : Fin 4)).trans (finalA_result m ρ c)

/-- The run, for any float values: arguments unchanged, counters at zero. -/
theorem run_kept : θ_run defs (onTc (τ := τ) (main (F := F))) (s₀ m ρ) (fun r => (∀ c, Kept m r c) ∧ r.2.sem = fun _ => 0) :=
  (θ_run defs _ _).mono (fun _ h => ⟨fun c => kept_of_QC m ρ h.1 c, h.2⟩) (run_main m ρ)

end

/-- The idealized kernel runs, leaves its arguments unchanged and ends with every counter at zero. -/
theorem frame_kernelIdeal : Cert.quiescent_KernelIdeal := fun m ρ _ => run_kept (F := Ideal) m ρ

/-- The kernel's table of bodies is the idealized kernel's. -/
theorem bodies_eq : @Cert.Kernel.defs₀ Bits _ _ = @Cert.KernelIdeal.defs₀ Bits _ _ := by
  unfold Cert.Kernel.defs₀ Cert.KernelIdeal.defs₀
  refine congrArg (Defs.onTc (nD := nD) (τ := τ) (sig := sig) (Val := Elt Bits) (Λ := Λ₀)) (funext fun l => funext fun a => ?_)
  match l, a with
  | 0, (t, s) => rfl

/-- So does the kernel itself. -/
theorem frame_kernel : Cert.quiescent_Kernel := fun m ρ _ => by
  have h := run_kept (F := Bits) m ρ
  unfold Cert.Kernel.defs
  rw [bodies_eq]
  exact h

end Cert.Moe

end
-- ==== Proof.Moe.Count.lean ====
/-
# Which expert keeps which token

An expert keeps a token that chose it, if no more than 25 tokens up to and including that token chose it. The kernel
counts those tokens by a matrix product of zeros and ones, the reference by a running sum of words less the token's own.
-/
module

public import proofs.«01_k».proof.Proof.Gen.KernelIdeal
public import proofs.«01_k».proof.Proof.Gen.KernelIdeal.Skeleton
public import proofs.«01_k».proof.Proof.Gen.ReferenceIdeal
public import Idealize.ShloMosaic.Lib.Pointwise
public import Idealize.ShloMosaic.Lib.WordCmp
public import Idealize.ShloMosaic.Lib.Routing.OpsOne

@[expose] public section

noncomputable section

namespace Cert.Moe

open Idealize.ShloMosaic Idealize.ShloMosaic.Pointwise

/-- How many tokens up to and including `t` chose expert `e`, if token `s` chose `r s`. -/
def chosenUpTo (r : Fin 1024 → BitVec 32) (e : BitVec 32) (t : Fin 1024) : ℕ :=
  (Finset.univ.filter fun s : Fin 1024 => s ≤ t ∧ r s = e).card

/-- Expert `e` keeps token `t`. -/
def KeepsToken (r : Fin 1024 → BitVec 32) (e : BitVec 32) (t : Fin 1024) : Prop := r t = e ∧ chosenUpTo r e t ≤ 25

/-- Whether an expert keeps a token is decided by counting. -/
instance (r : Fin 1024 → BitVec 32) (e : BitVec 32) (t : Fin 1024) : Decidable (KeepsToken r e t) := inferInstanceAs (Decidable (_ ∧ _))

/-- At most 1024 tokens choose an expert. -/
theorem chosenUpTo_le (r : Fin 1024 → BitVec 32) (e : BitVec 32) (t : Fin 1024) : chosenUpTo r e t ≤ 1024 :=
  (Finset.card_filter_le _ _).trans (le_of_eq (by simp))

/-- A token that chose the expert is counted. -/
theorem chosenUpTo_pos {r : Fin 1024 → BitVec 32} {e : BitVec 32} {t : Fin 1024} (h : r t = e) : 1 ≤ chosenUpTo r e t :=
  Finset.card_pos.2 ⟨t, by simp [h]⟩

/-- The count as a sum over the first `t + 1` naturals. -/
theorem sum_upTo (r : Fin 1024 → BitVec 32) (e : BitVec 32) (t : Fin 1024) :
    ((List.range (t.val + 1)).map fun i => if h : i < 1024 then (if r ⟨i, h⟩ = e then 1 else 0) else 0).sum = chosenUpTo r e t := by
  have ht := t.isLt
  have hs : ∀ s : Fin 1024, (if s ≤ t ∧ r s = e then 1 else 0)
      = (fun i : ℕ => if i ∈ Finset.range (t.val + 1) then (if h : i < 1024 then (if r ⟨i, h⟩ = e then 1 else 0) else 0) else 0) s.val := fun s => by
    simp only [Finset.mem_range, Fin.le_def, s.isLt, dif_pos, Nat.lt_succ_iff]
    by_cases h : s.val ≤ t.val <;> simp [h]
  rw [chosenUpTo, Finset.card_filter, Finset.sum_congr rfl fun s _ => hs s,
    Fin.sum_univ_eq_sum_range (fun i : ℕ => if i ∈ Finset.range (t.val + 1) then (if h : i < 1024 then (if r ⟨i, h⟩ = e then 1 else 0) else 0) else 0) 1024,
    ← Finset.sum_filter, Finset.filter_mem_eq_inter, Finset.inter_eq_right.2 (Finset.range_subset_range.2 (by omega))]
  rfl

/-! ## The reference's mask -/

section Reference
open Cert.ReferenceIdeal Cert.ReferenceIdeal.Gen

/-- Whether the token chose the expert, as the reference's words. -/
def chosenBits (z : IVec S1024x1 32) : IVec S1024x32 1 :=
  cmpi .eq (broadcastInDim S1024x32 ![0, 1] bcast_S1024x1_S1024x32_0_1 z) (iotaInDim S1024x32 32 1)

/-- The reference's running sums of those. -/
def runningCount (z : IVec S1024x1 32) : IVec S1024x32 32 :=
  Host.reduceWindow IntOp.addi ![1024, 1] ![1, 1] ![1023, 0] ![0, 0] (extui 32 (chosenBits z) natLt_1_32)
    (broadcastInDim S_ ![] bcast_S_S_ (constantI S_ 32 0#32)) reduceWindows_S1024x32_S1024x32_w1024s1p1023_0_w1s1p0_0 h_S_

/-- Whether the expert keeps the token, as the reference's words. -/
def keepBits (z : IVec S1024x1 32) : IVec S1024x32 1 :=
  andi (chosenBits z) (cmpi .slt (subi (runningCount z) (extui 32 (chosenBits z) natLt_1_32))
    (broadcastInDim S1024x32 ![] bcast_S_S1024x32 (constantI S_ 32 25#32)))

/-- The reference's mask of choices, at token `t` and expert `e`: whether `t` chose `e`. -/
theorem chosenBits_at (z : IVec S1024x1 32) (t : Fin 1024) (e : Fin 32) :
    chosenBits z (ix2 t e) = BitVec.ofBool (decide (z (ix2 t 0) = BitVec.ofNat 32 e.val)) := by
  pointwise [chosenBits]
  exact WordCmp.cmpi_eq_eq _ _

/-- The reference's running sum, at token `t` and expert `e`: how many tokens up to `t` chose `e`, as a word. -/
theorem runningCount_at (z : IVec S1024x1 32) (t : Fin 1024) (e : Fin 32) :
    runningCount z (ix2 t e) = BitVec.ofNat 32 (chosenUpTo (fun s => z (ix2 s 0)) (BitVec.ofNat 32 e.val) t) := by
  refine (Routing.cumsum_rows (R := 1024) (Rm1 := 1023) (C := 32) rfl _
    (fun i c => if h : i < 1024 then (if z (ix2 (⟨i, h⟩ : Fin 1024) (0 : Fin 1)) = BitVec.ofNat 32 c then 1 else 0) else 0)
    (fun i c => ?_) _ rfl _ _ t e).trans (congrArg (BitVec.ofNat 32) (sum_upTo (fun s => z (ix2 s 0)) (BitVec.ofNat 32 e.val) t))
  show (chosenBits z (ix2 i c)).setWidth 32 = _
  rw [chosenBits_at, dif_pos i.isLt]
  by_cases h : z (ix2 i 0) = BitVec.ofNat 32 c.val
  · rw [decide_eq_true h, if_pos h]; rfl
  · rw [decide_eq_false h, if_neg h]; rfl

/-- The reference's mask is one where the expert keeps the token. -/
theorem keepBits_at (z : IVec S1024x1 32) (t : Fin 1024) (e : Fin 32) :
    keepBits z (ix2 t e) = BitVec.ofBool (decide (KeepsToken (fun s => z (ix2 s 0)) (BitVec.ofNat 32 e.val) t)) := by
  pointwise [keepBits]
  rw [runningCount_at, chosenBits_at]
  have hle := chosenUpTo_le (fun s => z (ix2 s 0)) (BitVec.ofNat 32 e.val) t
  by_cases h : z (ix2 t 0) = BitVec.ofNat 32 e.val
  · have hpos := chosenUpTo_pos (r := fun s => z (ix2 s 0)) h
    have hk : KeepsToken (fun s => z (ix2 s 0)) (BitVec.ofNat 32 e.val) t ↔ chosenUpTo (fun s => z (ix2 s 0)) (BitVec.ofNat 32 e.val) t - 1 < 25 :=
      ⟨fun k => by have := k.2; omega, fun k => ⟨h, by omega⟩⟩
    have hsub : IntOp.subi (BitVec.ofNat 32 (chosenUpTo (fun s => z (ix2 s 0)) (BitVec.ofNat 32 e.val) t))
        (BitVec.setWidth 32 (BitVec.ofBool (decide (z (ix2 t 0) = BitVec.ofNat 32 e.val))))
        = BitVec.ofNat 32 (chosenUpTo (fun s => z (ix2 s 0)) (BitVec.ofNat 32 e.val) t - 1) := by
      obtain ⟨n, hn⟩ : ∃ n, chosenUpTo (fun s => z (ix2 s 0)) (BitVec.ofNat 32 e.val) t = n + 1 := ⟨_, (Nat.sub_add_cancel hpos).symm⟩
      rw [hn, decide_eq_true h, Nat.add_sub_cancel]
      show BitVec.ofNat 32 (n + 1) - 1#32 = _
      rw [BitVec.ofNat_add, BitVec.add_sub_cancel]
    rw [hsub, WordCmp.cmpi_slt_ofNat (w := 32) (b := 25) (by omega) (by omega), WordCmp.andi_ofBool, decide_eq_true h, Bool.true_and,
      decide_eq_decide.2 hk]
  · have hk : ¬ KeepsToken (fun s => z (ix2 s 0)) (BitVec.ofNat 32 e.val) t := fun k => h k.1
    rw [decide_eq_false h, decide_eq_false hk]
    exact BitVec.zero_and

end Reference

/-! ## The kernel's mask -/

section Kernel
open Cert.KernelIdeal Cert.KernelIdeal.Gen

/-- A decided bit, widened and converted, is one or zero. -/
theorem bit_real (p : Prop) [Decidable p] :
    (FloatOps.sitofp .f32 (BitVec.setWidth 32 (BitVec.ofBool (decide p))) : Idealize.ShloMosaic.Ideal .f32) = if p then (1 : EReal) else 0 := by
  show (((BitVec.setWidth 32 (BitVec.ofBool (decide p))).toInt : ℝ) : EReal) = _
  by_cases h : p <;> simp [h]

/-- The kernel's constant is the number 25. -/
theorem twenty_five : Ideal.ofBits .f32 0x41C80000#32 = ((25 : ℕ) : EReal) := by
  simp [Ideal.ofBits, Ideal.ieee, -EReal.coe_mul]; norm_num; rfl

/-- The kernel's mask for the four experts from `4 w` on is one where the expert keeps the token, and zero elsewhere. -/
theorem mask_at (w : BitVec 32) (z : Vec Idealize.ShloMosaic.Ideal S1024x1 .i32) (t : Fin 1024) (j : Fin 4) :
    k0_pay2 (F := Idealize.ShloMosaic.Ideal) w z (ix2 t j)
      = if KeepsToken (fun s => z (ix2 s 0)) (w * 4#32 + BitVec.ofNat 32 j.val) t then (1 : EReal) else 0 := by
  pointwise [k0_pay2]
  have hadd : IntOp.addi (Scalar.muli w 4#32) (BitVec.ofNat 32 j.val) = w * 4#32 + BitVec.ofNat 32 j.val := rfl
  rw [hadd]
  generalize w * 4#32 + BitVec.ofNat 32 j.val = e
  have hle : ∀ x : Fin 1024, IntOp.cmpi .sle (BitVec.ofNat 32 x.val) (BitVec.ofNat 32 t.val) = BitVec.ofBool (decide (x ≤ t)) := fun x => by
    rw [WordCmp.cmpi_sle_ofNat (w := 32) (by omega) (by omega)]; rfl
  have hsum : (∑ x : Fin 1024, (FloatOps.sitofp .f32 (BitVec.setWidth 32 (IntOp.cmpi .sle (BitVec.ofNat 32 x.val) (BitVec.ofNat 32 t.val))) : Idealize.ShloMosaic.Ideal .f32)
        * (FloatOps.sitofp .f32 (BitVec.setWidth 32 (IntOp.cmpi .eq (z (ix2 x 0)) e)) : Idealize.ShloMosaic.Ideal .f32))
      = ((chosenUpTo (fun s => z (ix2 s 0)) e t : ℕ) : EReal) := by
    rw [chosenUpTo, ← Finset.sum_boole]
    refine Finset.sum_congr rfl fun x _ => ?_
    rw [hle, WordCmp.cmpi_eq_eq, bit_real, bit_real]
    by_cases h1 : x ≤ t <;> by_cases h2 : z (ix2 x 0) = e <;> simp [h1, h2]
  rw [hsum, twenty_five, bit_real, WordCmp.cmpi_eq_eq, bit_real]
  unfold KeepsToken
  by_cases h1 : z (ix2 t 0) = e <;> by_cases h2 : chosenUpTo (fun s => z (ix2 s 0)) e t ≤ 25 <;>
    simp [h1, h2]

end Kernel

end Cert.Moe

end
-- ==== Proof.Moe.Value.lean ====
/-
# The kernel's result is the reference's

Device `c`'s partial block of the tokens of block `b` is, over its four experts and at every token, the expert's product
where the expert keeps the token and zero where it does not. The eight partial blocks of the tokens of device `c` add
up to the sum over all 32 experts, which is what the reference computes.
-/
module

public import proofs.«01_k».proof.Proof.Moe.Ends
public import proofs.«01_k».proof.Proof.Moe.Count
public import proofs.«01_k».proof.Proof.Gen.ReferenceIdeal.Run
public import Idealize.ShloMosaic.Lib.Layout

@[expose] public section

noncomputable section

namespace Cert.Moe

open Idealize.ShloMosaic Idealize.ShloMosaic.Pointwise
open Idealize.ShloMosaic.TcCoe
open Idealize.SL.Sem

local notation "𝕀" => Idealize.ShloMosaic.Ideal

/-- Token `r` of block `b`. -/
def rowOf (b : Fin 8) (r : Fin 128) : Fin 1024 := ⟨128 * b.val + r.val, by omega⟩
/-- Expert `j` of device `c`. -/
def expert (c : Fin 8) (j : Fin 4) : Fin 32 := ⟨4 * c.val + j.val, by omega⟩

/-! ## The kernel's blocks -/

section Kernel
open Cert.KernelIdeal Cert.KernelIdeal.Gen

variable (m : (ℓ : Loc nD τ sig) → Buf (Elt 𝕀) ℓ) (ρ : Dev nD → PrngReg)

/-- The word that the kernel reads as its own number is the device's number. -/
theorem ringWord_eq (c : Dev nD) : ringWord c = BitVec.ofNat 32 c.val := by
  revert c; decide

/-- The number of expert `j` of device `c`, as the kernel computes it. -/
theorem expert_word (c : Dev nD) (j : Fin 4) : ringWord c * 4#32 + BitVec.ofNat 32 j.val = BitVec.ofNat 32 (expert c j).val := by
  rw [ringWord_eq, ← BitVec.ofNat_mul, ← BitVec.ofNat_add, Nat.mul_comm]; rfl

/-- Row `r` of block `b` of the tokens is the row of the token that it stands for. -/
theorem tokens_row (b : Dev nD) (x : (cc0_stg0_0 : Ref sig .tc).ty.Contents (Elt 𝕀)) (r : Fin 128) (d : Fin 512) :
    (View.whole cc0_stg0_0).readAt (Elt 𝕀) (xR b).toLoadRect x (ix2 r d) = x (ix2 (rowOf b r) d) := by
  refine congrArg x (funext fun a => Fin.ext ?_)
  match a with
  | ⟨0, _⟩ => show 128 * b.val + 1 * r.val = 128 * b.val + r.val; omega
  | ⟨1, _⟩ => show 0 + 1 * d.val = d.val; omega
/-- Row `r` of block `b` of the keep mask is the row of the token that it stands for. -/
theorem mask_row (b : Dev nD) (x : (cc0_scratch0 : Ref sig .tc).ty.Contents (Elt 𝕀)) (r : Fin 128) (j : Fin 4) :
    (View.whole cc0_scratch0).readAt (Elt 𝕀) (kR b).toLoadRect x (ix2 r j) = x (ix2 (rowOf b r) j) := by
  refine congrArg x (funext fun a => Fin.ext ?_)
  match a with
  | ⟨0, _⟩ => show 128 * b.val + 1 * r.val = 128 * b.val + r.val; omega
  | ⟨1, _⟩ => show 0 + 1 * j.val = j.val; omega

/-- What expert `e`, of weights `w`, adds at token `t` and feature `f`: its product if it keeps the token. -/
def adds (x : FVec 𝕀 S1024x512 .bf16) (z : IVec S1024x1 32) (e : Fin 32) (w : Fin 512 → EReal) (t : Fin 1024) : EReal :=
  if KeepsToken (fun s => z (ix2 s 0)) (BitVec.ofNat 32 e.val) t then ∑ d : Fin 512, w d * x (ix2 t d) else 0

/-- A product whose left factor is masked is the product where the mask is one, and zero where it is zero. -/
theorem masked_sum (p : Prop) [Decidable p] (x w : Fin 512 → EReal) :
    ∑ d : Fin 512, x d * (if p then (1 : EReal) else 0) * w d = if p then ∑ d : Fin 512, w d * x d else 0 := by
  by_cases h : p
  · simp only [if_pos h, mul_one]; exact Finset.sum_congr rfl fun d _ => mul_comm _ _
  · simp only [if_neg h, mul_zero, zero_mul, Finset.sum_const_zero]

/-- Device `c`'s partial block of the tokens of block `b`, at a token and a feature. -/
theorem part_at (c b : Dev nD) (r : Fin 128) (f : Fin 1024) :
    part m ρ c b (ix2 r f) = ∑ j : Fin 4, adds (xs m ρ c) (is m ρ c) (expert c j) (fun d => ws m ρ c (ix3 j d f)) (rowOf b r) := by
  have hk : ∀ j : Fin 4, keeps m ρ c (ix2 (rowOf b r) j)
      = if KeepsToken (fun s => is m ρ c (ix2 s 0)) (BitVec.ofNat 32 (expert c j).val) (rowOf b r) then (1 : EReal) else 0 := fun j =>
    (mask_at (ringWord c) (is m ρ c) (rowOf b r) j).trans (by rw [expert_word])
  pointwise [part, k0_pay4, k0_pay3]
  simp only [tokens_row, mask_row, hk]
  rw [Fin.sum_univ_four]
  simp only [adds, masked_sum]

/-- Device `c` and the seven it receives from are all the devices. -/
theorem sum_devices (c : Dev nD) (g : Dev nD → EReal) :
    g c + g (hop c (Fin.rev 0)) + g (hop c (Fin.rev 1)) + g (hop c (Fin.rev 2)) + g (hop c (Fin.rev 3)) + g (hop c (Fin.rev 4))
      + g (hop c (Fin.rev 5)) + g (hop c (Fin.rev 6)) = ∑ d : Dev nD, g d := by
  have hu : ∀ c : Dev nD, (Finset.univ : Finset (Dev nD)) = insert c (Finset.univ.image fun k : Fin 7 => hop c k.rev) := by decide
  have hn : ∀ c : Dev nD, c ∉ Finset.univ.image fun k : Fin 7 => hop c k.rev := by decide
  have hi : ∀ (c : Dev nD) (j k : Fin 7), hop c j.rev = hop c k.rev → j = k := by decide
  rw [hu c, Finset.sum_insert (hn c), Finset.sum_image fun j _ k _ h => hi c j k h, Fin.sum_univ_seven]
  simp only [add_assoc]

/-- Device `c`'s result is the sum of the eight devices' partial blocks of its tokens. -/
theorem total_at (c : Dev nD) (r : Fin 128) (f : Fin 1024) :
    total m ρ c (ix2 r f) = ∑ d : Dev nD, part m ρ d c (ix2 r f) := by
  rw [← sum_devices c fun d => part m ρ d c (ix2 r f)]
  rfl

end Kernel

/-! ## The reference's result -/

section Reference
open Cert.ReferenceIdeal Cert.ReferenceIdeal.Gen

/-- The reference's result as its operations compose it. -/
def refOut (x : FVec 𝕀 S1024x512 .bf16) (z : IVec S1024x1 32) (W : FVec 𝕀 S32x512x1024 .bf16) : FVec 𝕀 S1024x1024 .f32 :=
  Host.reduceAdd
    (select
      (broadcastInDim S32x1024x1024 ![0, 1, 2] bcast_S32x1024x1_S32x1024x1024_0_1_2
        (broadcastInDim S32x1024x1 ![0, 1] bcast_S32x1024_S32x1024x1_0_1
          (transpose S32x1024 [1, 0] (keepBits z) transposes_S1024x32_S32x1024_1_0)))
      (transpose S32x1024x1024 [0, 2, 1]
        (Host.dotGeneral dot_S32x512x1024_S1024x512_S32x1024x1024_1_1_02_0_n_n none (extf .f32 W bitsLt_bf16_f32) (extf .f32 x bitsLt_bf16_f32))
        transposes_S32x1024x1024_S32x1024x1024_0_2_1)
      (broadcastInDim S32x1024x1024 ![] bcast_S_S32x1024x1024 (id (constant S_ .f32 0x00000000#32))))
    (constant S_ .f32 0x00000000#32) reducesTo_S32x1024x1024_S1024x1024_d0 h_S_

/-- The reference's result at a token and a feature: the sum of what its 32 experts add. -/
theorem refOut_at (x : FVec 𝕀 S1024x512 .bf16) (z : IVec S1024x1 32) (W : FVec 𝕀 S32x512x1024 .bf16) (t f : Fin 1024) :
    refOut x z W (ix2 t f) = ∑ e : Fin 32, adds x z e (fun d => W (ix3 e d f)) t := by
  have h0 : (id (constant S_ .f32 0x00000000#32) : FVec 𝕀 S_ .f32) ix0 = 0 := by
    show Ideal.ofBits .f32 0x00000000#32 = 0
    simp
  pointwise [refOut]
  refine Finset.sum_congr rfl fun e _ => ?_
  rw [h0, keepBits_at, WordCmp.select_decide]
  rfl

/-- The reference's run ends with its result at that, and its arguments as they were. -/
theorem run_reference (m : (ℓ : Loc nD τ sig) → Buf (Elt 𝕀) ℓ) (ρ : Dev nD → PrngReg) :
    θ_run defs (onTc (τ := τ) (main (F := 𝕀))) ⟨m, fun _ => 0, ρ⟩ fun r => ∀ c : Dev nD,
      r.2.mem ((c.tc : Thread nD τ).loc main_v17)
          = refOut (m ((c.tc : Thread nD τ).loc main_arg0)) (m ((c.tc : Thread nD τ).loc main_arg2)) (m ((c.tc : Thread nD τ).loc main_arg3))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3) :=
  Cert.ReferenceIdeal.Value.run (F := 𝕀) m ρ

end Reference

/-! ## The two together -/

/-- The 32 experts are the eight devices' four each. -/
theorem sum_experts (g : Fin 32 → EReal) : ∑ e : Fin 32, g e = ∑ c : Fin 8, ∑ j : Fin 4, g (expert c j) := by
  rw [← Fintype.sum_prod_type', ← Equiv.sum_comp (finProdFinEquiv (m := 8) (n := 4)) g]
  refine Finset.sum_congr rfl fun p _ => congrArg g (Fin.ext ?_)
  show p.2.val + 4 * p.1.val = 4 * p.1.val + p.2.val
  omega

section Together
open Cert.KernelIdeal Cert.KernelIdeal.Gen

/-- Device `c`'s result is block `c` of the reference's, if every device has the reference's tokens and chosen experts,
and its own four of the reference's experts. -/
theorem total_eq_block (m : (ℓ : Loc nD τ sig) → Buf (Elt 𝕀) ℓ) (ρ : Dev nD → PrngReg)
    (x : FVec 𝕀 S1024x512 .bf16) (z : IVec S1024x1 32) (W : FVec 𝕀 ⟨3, ![32, 512, 1024]⟩ .bf16)
    (hx : ∀ c : Dev nD, m ((c : Thread nD τ).loc main_arg0) = x)
    (hz : ∀ c : Dev nD, m ((c : Thread nD τ).loc main_arg2) = z)
    (hW : ∀ c : Dev nD, m ((c : Thread nD τ).loc main_arg3) = Layout.block ⟨3, ![4, 512, 1024]⟩ ⟨3, ![32, 512, 1024]⟩ 0 8 c W)
    (c : Dev nD) : total m ρ c = Layout.block ⟨2, ![128, 1024]⟩ ⟨2, ![1024, 1024]⟩ 0 8 c (refOut x z W) := by
  funext i
  obtain ⟨r, f, rfl⟩ : ∃ (r : Fin 128) (f : Fin 1024), i = ix2 r f := ⟨i 0, i 1, by funext a; match a with | ⟨0, _⟩ => rfl | ⟨1, _⟩ => rfl⟩
  have hb : (Layout.block ⟨2, ![128, 1024]⟩ ⟨2, ![1024, 1024]⟩ 0 8 c (refOut x z W)) (ix2 r f) = refOut x z W (ix2 (rowOf c r) f) := by
    refine congrArg (refOut x z W) (funext fun a => Fin.ext ?_)
    match a with
    | ⟨0, _⟩ => show c.val * 128 + r.val = 128 * c.val + r.val; omega
    | ⟨1, _⟩ => rfl
  have hw : ∀ (d : Dev nD) (j : Fin 4) (k : Fin 512), ws m ρ d (ix3 j k f) = W (ix3 (expert d j) k f) := fun d j k => by
    rw [ws_eq, hW d]
    refine congrArg W (funext fun a => Fin.ext ?_)
    match a with
    | ⟨0, _⟩ => show d.val * 4 + j.val = 4 * d.val + j.val; omega
    | ⟨1, _⟩ => rfl
    | ⟨2, _⟩ => rfl
  have hp : ∀ d : Dev nD, part m ρ d c (ix2 r f) = ∑ j : Fin 4, adds x z (expert d j) (fun k => W (ix3 (expert d j) k f)) (rowOf c r) := fun d => by
    rw [part_at, xs_eq, is_eq, hx, hz]
    simp only [hw]
  refine (total_at m ρ c r f).trans (Eq.trans ?_ ((refOut_at x z W (rowOf c r) f).trans (sum_experts _)).symm |>.trans hb.symm)
  exact Finset.sum_congr rfl fun d _ => hp d

end Together

/-- The kernel's result is the reference's, a block to a device. -/
theorem algebraic : Cert.algebraic_KernelIdeal_ReferenceIdeal := fun m g m' g' _ h => by
  refine ⟨refOut (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg2))
    (m' (((0 : Dev Cert.ReferenceIdeal.nD).tc : Thread _ Cert.ReferenceIdeal.τ).loc Cert.ReferenceIdeal.main_arg3)), ?_, ?_⟩
  · refine (θ_run Cert.KernelIdeal.defs _ _).mono (fun r hr c => ⟨?_, kept_of_QC m g hr.1 c⟩) (run_main (F := 𝕀) m g)
    exact (result_of_QC m g hr.1 c).trans
      (total_eq_block m g _ _ _ (fun d => (h d).1) (fun d => (h d).2.2.1) (fun d => (h d).2.2.2) c)
  · exact (θ_run Cert.ReferenceIdeal.defs _ _).mono (fun r hr => hr 0) (run_reference m' g')

end Cert.Moe

end
-- ==== Proof.Moe.Reference.lean ====
/-
  The reference on its one device: its run leaves its arguments as they were and every counter at zero.
-/
module

public import proofs.«01_k».proof.Defs
public import proofs.«01_k».proof.Proof.Gen.ReferenceIdeal.Run
public import Idealize.ShloMosaic.Lib.Quiescent

@[expose] public section

noncomputable section

namespace Cert.Moe

open Idealize.ShloMosaic Idealize.SL.Sem

/-- The reference ends with its arguments as they were, and every counter at zero: it declares no semaphore. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

end Cert.Moe

end
-- ==== Proof.lean ====
/-
  The certificate: what the kernel on eight devices, its idealized form and the reference each leave behind, claim by claim.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Moe.Ends
public import proofs.«01_k».proof.Proof.Moe.Value
public import proofs.«01_k».proof.Proof.Moe.Reference

@[expose] public section

noncomputable section

namespace Cert.Proof

/-- The claims together. -/
theorem claim : Cert.Claim := ⟨Cert.Kernel.Gen.facts, Cert.KernelIdeal.Gen.facts, Cert.ReferenceIdeal.Gen.facts,
  Cert.Moe.frame_kernel, Cert.Moe.frame_kernelIdeal, Cert.Moe.frame_reference, trivial, Cert.Moe.algebraic⟩

end Cert.Proof

end
